-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16x4096 : Shape := ⟨2, ![16, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4096x4096 .f32) (main_arg1 : FVec F S16x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S4096x4096 : Shape := ⟨2, ![4096, 4096]⟩
abbrev S16x4096 : Shape := ⟨2, ![16, 4096]⟩
abbrev S4096x16 : Shape := ⟨2, ![4096, 16]⟩
abbrev S4096x80 : Shape := ⟨2, ![4096, 80]⟩
abbrev S1x32 : Shape := ⟨2, ![1, 32]⟩
abbrev S65536x512 : Shape := ⟨2, ![65536, 512]⟩
abbrev S4096x16x512 : Shape := ⟨3, ![4096, 16, 512]⟩
abbrev S1x1 : Shape := ⟨2, ![1, 1]⟩
abbrev S_ : Shape := ⟨0, ![]⟩
abbrev S512x4096 : Shape := ⟨2, ![512, 4096]⟩
abbrev S512x80 : Shape := ⟨2, ![512, 80]⟩
abbrev S1x16 : Shape := ⟨2, ![1, 16]⟩
abbrev S512x16 : Shape := ⟨2, ![512, 16]⟩
abbrev S512 : Shape := ⟨1, ![512]⟩
abbrev S512x1 : Shape := ⟨2, ![512, 1]⟩
abbrev S512x512 : Shape := ⟨2, ![512, 512]⟩
abbrev S16 : Shape := ⟨1, ![16]⟩
abbrev S1 : Shape := ⟨1, ![1]⟩
abbrev S2x2048x512 : Shape := ⟨3, ![2, 2048, 512]⟩
abbrev S2x128x16x512 : Shape := ⟨4, ![2, 128, 16, 512]⟩
abbrev S2x2 : Shape := ⟨2, ![2, 2]⟩
abbrev S128x80 : Shape := ⟨2, ![128, 80]⟩
abbrev S128x16 : Shape := ⟨2, ![128, 16]⟩
abbrev S128 : Shape := ⟨1, ![128]⟩
abbrev S128x1 : Shape := ⟨2, ![128, 1]⟩
abbrev S128x16x512 : Shape := ⟨3, ![128, 16, 512]⟩
abbrev S128x16x1 : Shape := ⟨3, ![128, 16, 1]⟩
abbrev S2048x512 : Shape := ⟨2, ![2048, 512]⟩
abbrev S1x2048x512 : Shape := ⟨3, ![1, 2048, 512]⟩
abbrev S1x128x16x512 : Shape := ⟨4, ![1, 128, 16, 512]⟩

abbrev nBuf : Space → Nat
  | .hbm => 15
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S4096x16, .f32⟩
  | .hbm, ⟨3, _⟩ => ⟨S4096x80, .f32⟩
  | .hbm, ⟨4, _⟩ => ⟨S1x32, .f32⟩
  | .hbm, ⟨5, _⟩ => ⟨S65536x512, .f32⟩
  | .hbm, ⟨6, _⟩ => ⟨S4096x16x512, .i8⟩
  | .hbm, ⟨7, _⟩ => ⟨S1x1, .f32⟩
  | .hbm, ⟨8, _⟩ => ⟨S_, .f32⟩
  | .hbm, ⟨9, _⟩ => ⟨S4096x16x512, .f32⟩
  | .hbm, ⟨10, _⟩ => ⟨S4096x16x512, .i8⟩
  | .hbm, ⟨11, _⟩ => ⟨S_, .i8⟩
  | .hbm, ⟨12, _⟩ => ⟨S4096x16x512, .i8⟩
  | .hbm, ⟨13, _⟩ => ⟨S4096x16x512, .i1⟩
  | .hbm, ⟨14, _⟩ => ⟨S4096x16x512, .i1⟩
  | .local _ .vmem, ⟨0, _⟩ => ⟨S512x4096, .f32⟩
  | .local _ .vmem, ⟨1, _⟩ => ⟨S512x4096, .f32⟩
  | .local _ .vmem, ⟨2, _⟩ => ⟨S4096x16, .f32⟩
  | .local _ .vmem, ⟨3, _⟩ => ⟨S512x80, .f32⟩
  | .local _ .vmem, ⟨4, _⟩ => ⟨S512x80, .f32⟩
  | .local _ .vmem, ⟨5, _⟩ => ⟨S1x32, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x32, .f32⟩
  | .local _ .vmem, ⟨10, _⟩ => ⟨S4096x80, .f32⟩
  | .local _ .vmem, ⟨11, _⟩ => ⟨S2x2048x512, .f32⟩
  | .local _ .vmem, ⟨12, _⟩ => ⟨S2x128x16x512, .i8⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2_0 : Ref sig .tc := ⟨.hbm, 5, rfl⟩
abbrev main_call0_v2_1 : Ref sig .tc := ⟨.hbm, 6, rfl⟩
abbrev main_call0_v3 : Ref sig .tc := ⟨.hbm, 7, rfl⟩
abbrev main_v0_0 : Ref sig .tc := ⟨.hbm, 8, rfl⟩
abbrev main_v0_1 : Ref sig .tc := ⟨.hbm, 9, rfl⟩
abbrev main_call0_v6 : Ref sig .tc := ⟨.hbm, 10, rfl⟩
abbrev main_call0_c : Ref sig .tc := ⟨.hbm, 11, rfl⟩
abbrev main_call0_v7 : Ref sig .tc := ⟨.hbm, 12, rfl⟩
abbrev main_call0_v8 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg1_0 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def k1_off1 (i : grid1.Coords) : Fin 2 → Nat :=
  let arg0 : BitVec 32 := BitVec.ofNat 32 (i 0).val
  let c128_i32 : BitVec 32 := 128#32
  let v2 : BitVec 32 := Scalar.muli arg0 c128_i32
  let v3 : Index := Scalar.indexCast v2
  let c0_1 : Index := 0#32
  ![v3.toNat, 0]
def k1_cond1 (i : grid1.Coords) : BitVec 1 :=
  let arg0 : BitVec 32 := BitVec.ofNat 32 (i 0).val
  let c2_i32 : BitVec 32 := 2#32
  let v62 : BitVec 32 := Scalar.remsi arg0 c2_i32
  let c0_i32 : BitVec 32 := 0#32
  let v63 : BitVec 1 := Scalar.cmpi .eq v62 c0_i32
  let v64 : BitVec 32 := Scalar.extui v63
  let c0_i32_13 : BitVec 32 := 0#32
  let v65 : BitVec 1 := Scalar.cmpi .ne v64 c0_i32_13
  v65

def k1_cond2 (i : grid1.Coords) : BitVec 1 :=
  let arg0 : BitVec 32 := BitVec.ofNat 32 (i 0).val
  let c2_i32_16 : BitVec 32 := 2#32
  let v72 : BitVec 1 := Scalar.cmpi .sge arg0 c2_i32_16
  let v73 : BitVec 32 := Scalar.extui v72
  let c0_i32_17 : BitVec 32 := 0#32
  let v74 : BitVec 1 := Scalar.cmpi .ne v73 c0_i32_17
  v74

def k1_off2 (i : grid1.Coords) : Fin 2 → Nat :=
  let arg0 : BitVec 32 := BitVec.ofNat 32 (i 0).val
  let c2_i32_40 : BitVec 32 := 2#32
  let v93 : BitVec 32 := Scalar.subi arg0 c2_i32_40
  let c2048_i32_41 : BitVec 32 := 2048#32
  let v94 : BitVec 32 := Scalar.muli v93 c2048_i32_41
  let c0_i32_45 : BitVec 32 := 0#32
  ![v94.toNat, 0]
def k1_off3 (i : grid1.Coords) : Fin 3 → Nat :=
  let arg0 : BitVec 32 := BitVec.ofNat 32 (i 0).val
  let c2_i32_48 : BitVec 32 := 2#32
  let v100 : BitVec 32 := Scalar.subi arg0 c2_i32_48
  let c128_i32_49 : BitVec 32 := 128#32
  let v101 : BitVec 32 := Scalar.muli v100 c128_i32_49
  let c0_i32_53 : BitVec 32 := 0#32
  let c0_i32_54 : BitVec 32 := 0#32
  ![v101.toNat, 0, 0]
def k1_off4 (i : grid1.Coords) : Fin 2 → Nat :=
  let arg0 : BitVec 32 := BitVec.ofNat 32 (i 0).val
  let c2048_i32 : BitVec 32 := 2048#32
  let v81 : BitVec 32 := Scalar.muli arg0 c2048_i32
  let c0_i32_28 : BitVec 32 := 0#32
  ![v81.toNat, 0]
def k1_off5 (i : grid1.Coords) : Fin 3 → Nat :=
  let arg0 : BitVec 32 := BitVec.ofNat 32 (i 0).val
  let c128_i32_31 : BitVec 32 := 128#32
  let v87 : BitVec 32 := Scalar.muli arg0 c128_i32_31
  let c0_i32_35 : BitVec 32 := 0#32
  let c0_i32_36 : BitVec 32 := 0#32
  ![v87.toNat, 0, 0]
def k1_cond3 (i : grid1.Coords) : BitVec 1 :=
  let arg0 : BitVec 32 := BitVec.ofNat 32 (i 0).val
  let c2_i32 : BitVec 32 := 2#32
  let v62 : BitVec 32 := Scalar.remsi arg0 c2_i32
  let c1_i32 : BitVec 32 := 1#32
  let v66 : BitVec 1 := Scalar.cmpi .eq v62 c1_i32
  let v67 : BitVec 32 := Scalar.extui v66
  let c0_i32_14 : BitVec 32 := 0#32
  let v68 : BitVec 1 := Scalar.cmpi .ne v67 c0_i32_14
  v68

def k1_cond4 (i : grid1.Coords) : BitVec 1 :=
  let arg0 : BitVec 32 := BitVec.ofNat 32 (i 0).val
  let c2_i32_16 : BitVec 32 := 2#32
  let v72 : BitVec 1 := Scalar.cmpi .sge arg0 c2_i32_16
  let v73 : BitVec 32 := Scalar.extui v72
  let c0_i32_17 : BitVec 32 := 0#32
  let v74 : BitVec 1 := Scalar.cmpi .ne v73 c0_i32_17
  v74

def k1_off6 (i : grid1.Coords) : Fin 2 → Nat :=
  let arg0 : BitVec 32 := BitVec.ofNat 32 (i 0).val
  let c2_i32_39 : BitVec 32 := 2#32
  let v93 : BitVec 32 := Scalar.subi arg0 c2_i32_39
  let c2048_i32_40 : BitVec 32 := 2048#32
  let v94 : BitVec 32 := Scalar.muli v93 c2048_i32_40
  let c0_i32_44 : BitVec 32 := 0#32
  ![v94.toNat, 0]
def k1_off7 (i : grid1.Coords) : Fin 3 → Nat :=
  let arg0 : BitVec 32 := BitVec.ofNat 32 (i 0).val
  let c2_i32_47 : BitVec 32 := 2#32
  let v100 : BitVec 32 := Scalar.subi arg0 c2_i32_47
  let c128_i32_48 : BitVec 32 := 128#32
  let v101 : BitVec 32 := Scalar.muli v100 c128_i32_48
  let c0_i32_52 : BitVec 32 := 0#32
  let c0_i32_53 : BitVec 32 := 0#32
  ![v101.toNat, 0, 0]
def k1_off8 (i : grid1.Coords) : Fin 2 → Nat :=
  let arg0 : BitVec 32 := BitVec.ofNat 32 (i 0).val
  let c2048_i32 : BitVec 32 := 2048#32
  let v81 : BitVec 32 := Scalar.muli arg0 c2048_i32
  let c0_i32_27 : BitVec 32 := 0#32
  ![v81.toNat, 0]
def k1_off9 (i : grid1.Coords) : Fin 3 → Nat :=
  let arg0 : BitVec 32 := BitVec.ofNat 32 (i 0).val
  let c128_i32_30 : BitVec 32 := 128#32
  let v87 : BitVec 32 := Scalar.muli arg0 c128_i32_30
  let c0_i32_34 : BitVec 32 := 0#32
  let c0_i32_35 : BitVec 32 := 0#32
  ![v87.toNat, 0, 0]
def k1_cond5 (i : grid1.Coords) : BitVec 1 :=
  let arg0 : BitVec 32 := BitVec.ofNat 32 (i 0).val
  let c31_i32 : BitVec 32 := 31#32
  let v69 : BitVec 1 := Scalar.cmpi .eq arg0 c31_i32
  let v70 : BitVec 32 := Scalar.extui v69
  let c0_i32_15 : BitVec 32 := 0#32
  let v71 : BitVec 1 := Scalar.cmpi .ne v70 c0_i32_15
  v71

def k1_off10 (c0_i32_18 : BitVec 32) : Fin 2 → Nat :=
  let c31_i32_16 : BitVec 32 := 31#32
  let c2_i32_17 : BitVec 32 := 2#32
  let v72 : BitVec 32 := Scalar.remsi c31_i32_16 c2_i32_17
  let v73 : BitVec 1 := Scalar.cmpi .eq v72 c0_i32_18
  let c31_i32_19 : BitVec 32 := 31#32
  let c30_i32 : BitVec 32 := 30#32
  let v74 : BitVec 32 := Scalar.select v73 c31_i32_19 c30_i32
  let c2048_i32 : BitVec 32 := 2048#32
  let v75 : BitVec 32 := Scalar.muli v74 c2048_i32
  let c0_i32_23 : BitVec 32 := 0#32
  ![v75.toNat, 0]
def k1_off11 (c0_i32_18 : BitVec 32) : Fin 3 → Nat :=
  let c31_i32_16 : BitVec 32 := 31#32
  let c2_i32_17 : BitVec 32 := 2#32
  let v72 : BitVec 32 := Scalar.remsi c31_i32_16 c2_i32_17
  let v73 : BitVec 1 := Scalar.cmpi .eq v72 c0_i32_18
  let c31_i32_19 : BitVec 32 := 31#32
  let c30_i32 : BitVec 32 := 30#32
  let v74 : BitVec 32 := Scalar.select v73 c31_i32_19 c30_i32
  let c128_i32_26 : BitVec 32 := 128#32
  let v81 : BitVec 32 := Scalar.muli v74 c128_i32_26
  let c0_i32_30 : BitVec 32 := 0#32
  let c0_i32_31 : BitVec 32 := 0#32
  ![v81.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== ReferenceIdeal.lean ====
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S16 : Shape := ⟨1, ![16]⟩
abbrev S1x512 : Shape := ⟨2, ![1, 512]⟩
abbrev S4096x512 : Shape := ⟨2, ![4096, 512]⟩
abbrev S4096x16x1 : Shape := ⟨3, ![4096, 16, 1]⟩
abbrev S4096x1x512 : Shape := ⟨3, ![4096, 1, 512]⟩
abbrev S4096x16x512 : Shape := ⟨3, ![4096, 16, 512]⟩

abbrev nBuf : Space → Nat
  | .hbm => 148
  | .vmem => 0
  | .smem => 0
  | _ => 0

abbrev hbmTy0_0 (i : Nat) : BufTy := match i % 128 with
  | 0 => ⟨S4096x4096, .f32⟩
  | 1 => ⟨S16x4096, .f32⟩
  | 2 => ⟨S4096x16, .f32⟩
  | 3 => ⟨S4096x16, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x16, .f32⟩
  | 11 => ⟨S4096x16, .f32⟩
  | 12 => ⟨S4096x16, .f32⟩
  | 13 => ⟨S_, .f32⟩
  | 14 => ⟨S4096, .f32⟩
  | 15 => ⟨S4096x1, .f32⟩
  | 16 => ⟨S4096x16, .f32⟩
  | 17 => ⟨S4096x16, .f32⟩
  | 18 => ⟨S4096x16, .i32⟩
  | 19 => ⟨S_, .f32⟩
  | 20 => ⟨S_, .i32⟩
  | 21 => ⟨S4096, .f32⟩
  | 22 => ⟨S4096, .i32⟩
  | 23 => ⟨S4096x1, .i32⟩
  | 24 => ⟨S1x16, .i32⟩
  | 25 => ⟨S4096x16, .i32⟩
  | 26 => ⟨S4096x16, .i32⟩
  | 27 => ⟨S4096x16, .i1⟩
  | 28 => ⟨S4096x16, .f32⟩
  | 29 => ⟨S_, .f32⟩
  | 30 => ⟨S4096x16, .f32⟩
  | 31 => ⟨S4096x16, .i1⟩
  | 32 => ⟨S4096x16, .i1⟩
  | 33 => ⟨S_, .f32⟩
  | 34 => ⟨S_, .f32⟩
  | 35 => ⟨S4096x16, .f32⟩
  | 36 => ⟨S4096x16, .f32⟩
  | 37 => ⟨S4096x16, .i32⟩
  | 38 => ⟨S_, .f32⟩
  | 39 => ⟨S_, .i32⟩
  | 40 => ⟨S4096, .f32⟩
  | 41 => ⟨S4096, .i32⟩
  | 42 => ⟨S4096x1, .i32⟩
  | 43 => ⟨S1x16, .i32⟩
  | 44 => ⟨S4096x16, .i32⟩
  | 45 => ⟨S4096x16, .i32⟩
  | 46 => ⟨S4096x16, .i1⟩
  | 47 => ⟨S4096x16, .f32⟩
  | 48 => ⟨S_, .f32⟩
  | 49 => ⟨S_, .f32⟩
  | 50 => ⟨S4096x16, .f32⟩
  | 51 => ⟨S_, .f32⟩
  | 52 => ⟨S4096x16, .f32⟩
  | 53 => ⟨S4096x16, .f32⟩
  | 54 => ⟨S_, .f32⟩
  | 55 => ⟨S_, .f32⟩
  | 56 => ⟨S4096x16, .f32⟩
  | 57 => ⟨S_, .f32⟩
  | 58 => ⟨S4096x16, .f32⟩
  | 59 => ⟨S4096x16, .f32⟩
  | 60 => ⟨S_, .f32⟩
  | 61 => ⟨S16, .f32⟩
  | 62 => ⟨S1x16, .f32⟩
  | 63 => ⟨S4096x16, .f32⟩
  | 64 => ⟨S4096x16, .f32⟩
  | 65 => ⟨S_, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S_, .f32⟩
  | 73 => ⟨S16, .f32⟩
  | 74 => ⟨S16, .f32⟩
  | 75 => ⟨S16, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096x16, .f32⟩
  | 86 => ⟨S4096x16, .i1⟩
  | 87 => ⟨S4096x16, .f32⟩
  | 88 => ⟨S4096x16, .f32⟩
  | 89 => ⟨S_, .f32⟩
  | 90 => ⟨S4096x16, .f32⟩
  | 91 => ⟨S4096x16, .i1⟩
  | 92 => ⟨S4096x16, .f32⟩
  | 93 => ⟨S4096x16, .f32⟩
  | 94 => ⟨S4096x16, .f32⟩
  | 95 => ⟨S_, .f32⟩
  | 96 => ⟨S4096, .f32⟩
  | 97 => ⟨S4096x16, .f32⟩
  | 98 => ⟨S_, .f32⟩
  | 99 => ⟨S4096, .f32⟩
  | 100 => ⟨S4096, .f32⟩
  | 101 => ⟨S_, .f32⟩
  | 102 => ⟨S_, .f32⟩
  | 103 => ⟨S4096, .f32⟩
  | 104 => ⟨S4096, .f32⟩
  | 105 => ⟨S4096, .f32⟩
  | 106 => ⟨S4096, .f32⟩
  | 107 => ⟨S4096x16, .f32⟩
  | 108 => ⟨S_, .f32⟩
  | 109 => ⟨S4096, .f32⟩
  | 110 => ⟨S4096, .i32⟩
  | 111 => ⟨S4096x16, .f32⟩
  | 112 => ⟨S_, .f32⟩
  | 113 => ⟨S4096, .f32⟩
  | 114 => ⟨S4096, .i32⟩
  | 115 => ⟨S4096x1, .f32⟩
  | 116 => ⟨S4096x16, .f32⟩
  | 117 => ⟨S4096x16, .f32⟩
  | 118 => ⟨S4096x1, .f32⟩
  | 119 => ⟨S4096x16, .f32⟩
  | 120 => ⟨S4096x16, .f32⟩
  | 121 => ⟨S4096x1, .i32⟩
  | 122 => ⟨S1x512, .i32⟩
  | 123 => ⟨S4096x512, .i32⟩
  | 124 => ⟨S4096x512, .i32⟩
  | 125 => ⟨S4096x512, .i1⟩
  | 126 => ⟨S4096x512, .f32⟩
  | 127 => ⟨S4096x1, .i32⟩
  | _ => ⟨S4096x4096, .f32⟩

abbrev hbmTy0_1 (i : Nat) : BufTy := match i % 128 with
  | 0 => ⟨S1x512, .i32⟩
  | 1 => ⟨S4096x512, .i32⟩
  | 2 => ⟨S4096x512, .i32⟩
  | 3 => ⟨S4096x512, .i1⟩
  | 4 => ⟨S4096x512, .f32⟩
  | 5 => ⟨S4096x16x1, .f32⟩
  | 6 => ⟨S4096x1x512, .f32⟩
  | 7 => ⟨S4096x16x512, .f32⟩
  | 8 => ⟨S4096x16x512, .f32⟩
  | 9 => ⟨S4096x16x512, .f32⟩
  | 10 => ⟨S4096x16x1, .f32⟩
  | 11 => ⟨S4096x1x512, .f32⟩
  | 12 => ⟨S4096x16x512, .f32⟩
  | 13 => ⟨S4096x16x512, .f32⟩
  | 14 => ⟨S4096x16x512, .f32⟩
  | 15 => ⟨S4096x16x512, .f32⟩
  | 16 => ⟨S_, .f32⟩
  | 17 => ⟨S4096x16x512, .f32⟩
  | 18 => ⟨S4096x16x512, .i1⟩
  | 19 => ⟨S4096x16x512, .i1⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v18 : Ref sig .tc := ⟨.hbm, 36, rfl⟩
abbrev main_call3_v0 : Ref sig .tc := ⟨.hbm, 37, rfl⟩
abbrev main_call3_cst : Ref sig .tc := ⟨.hbm, 38, rfl⟩
abbrev main_call3_c : Ref sig .tc := ⟨.hbm, 39, rfl⟩
abbrev main_call3_v1_0 : Ref sig .tc := ⟨.hbm, 40, rfl⟩
abbrev main_v19 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v20 : Ref sig .tc := ⟨.hbm, 47, rfl⟩
abbrev main_call5_call0_cst : Ref sig .tc := ⟨.hbm, 48, rfl⟩
abbrev main_call5_call0_v0 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_v23 : Ref sig .tc := ⟨.hbm, 53, rfl⟩
abbrev main_call6_call0_cst : Ref sig .tc := ⟨.hbm, 54, rfl⟩
abbrev main_call6_call0_v0 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_7 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_11 : Ref sig .tc := ⟨.hbm, 76, rfl⟩
abbrev main_v38 : Ref sig .tc := ⟨.hbm, 77, rfl⟩
abbrev main_cst_12 : Ref sig .tc := ⟨.hbm, 78, rfl⟩
abbrev main_v39 : Ref sig .tc := ⟨.hbm, 79, rfl⟩
abbrev main_cst_13 : Ref sig .tc := ⟨.hbm, 80, rfl⟩
abbrev main_v40 : Ref sig .tc := ⟨.hbm, 81, rfl⟩
abbrev main_cst_14 : Ref sig .tc := ⟨.hbm, 82, rfl⟩
abbrev main_v41 : Ref sig .tc := ⟨.hbm, 83, rfl⟩
abbrev main_cst_15 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_16 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_17 : Ref sig .tc := ⟨.hbm, 95, rfl⟩
abbrev main_v51 : Ref sig .tc := ⟨.hbm, 96, rfl⟩
abbrev main_v52 : Ref sig .tc := ⟨.hbm, 97, rfl⟩
abbrev main_cst_18 : Ref sig .tc := ⟨.hbm, 98, rfl⟩
abbrev main_v53 : Ref sig .tc := ⟨.hbm, 99, rfl⟩
abbrev main_v54 : Ref sig .tc := ⟨.hbm, 100, rfl⟩
abbrev main_cst_19 : Ref sig .tc := ⟨.hbm, 101, rfl⟩
abbrev main_call7_v0 : Ref sig .tc := ⟨.hbm, 102, rfl⟩
abbrev main_call7_v1 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_20 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_21 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_call8_v0 : Ref sig .tc := ⟨.hbm, 121, rfl⟩
abbrev main_call8_v1 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_v70 : Ref sig .tc := ⟨.hbm, 126, rfl⟩
abbrev main_call9_v0 : Ref sig .tc := ⟨.hbm, 127, rfl⟩
abbrev main_call9_v1 : Ref sig .tc := ⟨.hbm, 128, rfl⟩
abbrev main_call9_v2 : Ref sig .tc := ⟨.hbm, 129, rfl⟩
abbrev main_call9_v3 : Ref sig .tc := ⟨.hbm, 130, rfl⟩
abbrev main_call9_v4 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_cst_22 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩

abbrev nD : Nat := 1
abbrev τ : Topo := Topo.v7x

variable {F : FTy → Type} [FloatOps F]
-- ==== Proof.Twin.lean ====
module

public import proofs.«01_k».proof.Proof.Gen.Kernel
public import proofs.«01_k».proof.Proof.Gen.KernelIdeal

@[expose] public section

set_option maxRecDepth 65536

noncomputable section

namespace Cert.Twin

open Idealize.ShloMosaic Idealize.SL

/-- The two programs have the same buffers. -/
theorem sig_eq : Cert.Kernel.sig = Cert.KernelIdeal.sig := rfl

variable {F : FTy → Type} [FloatOps F]

/-- The two programs have the same main function. -/
theorem main_eq (c : Dev Cert.KernelIdeal.nD) : Cert.Kernel.main (F := F) c = Cert.KernelIdeal.main (F := F) c := rfl
/-- The two programs have the same bodies. -/
theorem defs₀_eq : Cert.Kernel.defs₀ (F := F) = Cert.KernelIdeal.defs₀ (F := F) :=
  congrArg (Defs.onTc (nD := Cert.KernelIdeal.nD) (τ := Cert.KernelIdeal.τ) (sig := Cert.KernelIdeal.sig) (Val := Elt F) (Λ := Cert.KernelIdeal.Λ₀)) (funext fun l => funext fun a => by
    match l, a with
    | 0, (t, s) => rfl
    | 1, (t, s) => rfl)
/-- The two programs have the same definitions. -/
theorem defs_eq : Cert.Kernel.defs (F := F) = Cert.KernelIdeal.defs (F := F) := by
  unfold Cert.Kernel.defs Cert.KernelIdeal.defs
  rw [defs₀_eq]
  rfl

end Cert.Twin

end
-- ==== Proof.ExpandRing.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Expand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## The operands of the second call -/

/-- The two double buffers in VMEM the blocks are computed into. -/
abbrev bufC : Memref sig .tc .vmem S2x2048x512 .f32 := Memref.whole cc1_scratch0
/-- The buffer of marks, both halves. -/
abbrev bufD : Memref sig .tc .vmem S2x128x16x512 .i8 := Memref.whole cc1_scratch1
/-- The two result arrays in HBM. -/
abbrev outC : Memref sig .tc .hbm S65536x512 .f32 := Memref.whole main_call0_v2_0
/-- The marks result. -/
abbrev outD : Memref sig .tc .hbm S4096x16x512 .i8 := Memref.whole main_call0_v2_1

/-- The contents type of a memref's buffer on core `c`. -/
abbrev Cont (c : Dev nD) {sp : Space} {S : Shape} {e : EltTy} (M : Memref sig .tc sp S e) : Type :=
  Buf (Elt F) (M.view.loc (c : Thread nD τ))

/-- The second call has at least one point. -/
instance : NeZero grid1.N := ⟨by rw [N_1]; decide⟩

/-- A half lies inside the weights buffer. -/
theorem inb_tileC (g : Fin 2) : ∀ a, (![g.val, 0, 0] : Fin 3 → Nat) a + S1x2048x512.size a ≤ S2x2048x512.size a := by
  have := g.isLt; intro a; fin_cases a <;> simp <;> omega
/-- A half lies inside the marks buffer. -/
theorem inb_tileD (g : Fin 2) : ∀ a, (![g.val, 0, 0, 0] : Fin 4 → Nat) a + S1x128x16x512.size a ≤ S2x128x16x512.size a := by
  have := g.isLt; intro a; fin_cases a <;> simp <;> omega
/-- A block lies inside the weights result. -/
theorem inb_pieceC (u : Fin 32) : ∀ a, (![2048 * u.val, 0] : Fin 2 → Nat) a + S2048x512.size a ≤ S65536x512.size a := by
  have := u.isLt; intro a; fin_cases a <;> simp <;> omega
/-- A block lies inside the marks result. -/
theorem inb_pieceD (u : Fin 32) : ∀ a, (![128 * u.val, 0, 0] : Fin 3 → Nat) a + S128x16x512.size a ≤ S4096x16x512.size a := by
  have := u.isLt; intro a; fin_cases a <;> simp <;> omega
/-- The weights' counter of half `g` lies inside the table of counters. -/
theorem inb_cellC (g : Fin 2) : ∀ a, (![0, g.val] : Fin 2 → Nat) a + S1x1.size a ≤ S2x2.size a := by
  have := g.isLt; intro a; fin_cases a <;> simp <;> omega
/-- The marks' counter of half `g` lies inside the table of counters. -/
theorem inb_cellD (g : Fin 2) : ∀ a, (![1, g.val] : Fin 2 → Nat) a + S1x1.size a ≤ S2x2.size a := by
  have := g.isLt; intro a; fin_cases a <;> simp <;> omega

/-- Half `g` of each double buffer, as a copy out names its source. -/
def tileC (g : Fin 2) : Memref sig .tc .vmem S2048x512 .f32 :=
  (bufC.slice (Rect.unit (s := S2x2048x512) ![g.val, 0, 0] S1x2048x512.size (inb_tileC g)) (fun _ => rfl)).squeeze S2048x512 squeezes_S1x2048x512_S2048x512
/-- Half `g` of the marks buffer. -/
def tileD (g : Fin 2) : Memref sig .tc .vmem S128x16x512 .i8 :=
  (bufD.slice (Rect.unit (s := S2x128x16x512) ![g.val, 0, 0, 0] S1x128x16x512.size (inb_tileD g)) (fun _ => rfl)).squeeze S128x16x512 squeezes_S1x128x16x512_S128x16x512
/-- Block `u` of each result, as a copy out names its destination. -/
def pieceC (u : Fin 32) : Memref sig .tc .hbm S2048x512 .f32 :=
  outC.slice (Rect.unit (s := S65536x512) ![2048 * u.val, 0] S2048x512.size (inb_pieceC u)) (fun _ => rfl)
/-- Block `u` of the marks result. -/
def pieceD (u : Fin 32) : Memref sig .tc .hbm S128x16x512 .i8 :=
  outD.slice (Rect.unit (s := S4096x16x512) ![128 * u.val, 0, 0] S128x16x512.size (inb_pieceD u)) (fun _ => rfl)
/-- The semaphore cell half `g`'s copy is counted on. -/
def cellC (g : Fin 2) : DmaSems sig S_ := (cc1_scratch2.slice (Rect.unit (s := S2x2) ![0, g.val] S1x1.size (inb_cellC g))).squeeze S_ squeezes_S1x1_S_
/-- The counter of the copies out of half `g` of the marks buffer. -/
def cellD (g : Fin 2) : DmaSems sig S_ := (cc1_scratch2.slice (Rect.unit (s := S2x2) ![1, g.val] S1x1.size (inb_cellD g))).squeeze S_ squeezes_S1x1_S_
/-- The weights' counter of half `g`, by its place. -/
abbrev semC (g : Fin 2) : SemLoc sig := SemLoc.dma (cellC g).sem
/-- The marks' counter of half `g`, by its place. -/
abbrev semD (g : Fin 2) : SemLoc sig := SemLoc.dma (cellD g).sem
/-- The place of the weights' first counter. -/
theorem semC_0 : semC 0 = SemLoc.dma 8 := by decide
/-- The place of the weights' second counter. -/
theorem semC_1 : semC 1 = SemLoc.dma 9 := by decide
/-- The place of the marks' first counter. -/
theorem semD_0 : semD 0 = SemLoc.dma 10 := by decide
/-- The place of the marks' second counter. -/
theorem semD_1 : semD 1 = SemLoc.dma 11 := by decide

section Roles
variable (c : Dev nD)

/-- A half, a block, a cell, each as held; and a copy in flight that will hand back a block with the values `X` and the half. -/
abbrev tileCP (g : Fin 2) (e : Cont (F := F) c (tileC g)) : sProp 𝕄 := (tileC g).view.loc (c : Thread nD τ) ↦[(tileC g).view.set]{fullShare} e
/-- Half `g` of the marks buffer, held at contents `e`. -/
abbrev tileDP (g : Fin 2) (e : Cont (F := F) c (tileD g)) : sProp 𝕄 := (tileD g).view.loc (c : Thread nD τ) ↦[(tileD g).view.set]{fullShare} e
/-- Block `u` of the weights result, held at contents `f`. -/
abbrev pieceCP (u : Fin 32) (f : Cont (F := F) c (pieceC u)) : sProp 𝕄 := (pieceC u).view.loc (c : Thread nD τ) ↦[(pieceC u).view.set]{fullShare} f
/-- Block `u` of the marks result, held at contents `f`. -/
abbrev pieceDP (u : Fin 32) (f : Cont (F := F) c (pieceD u)) : sProp 𝕄 := (pieceD u).view.loc (c : Thread nD τ) ↦[(pieceD u).view.set]{fullShare} f
/-- The weights' counter of half `g` reads zero. -/
abbrev cellCP (g : Fin 2) : sProp 𝕄 := semVal ((c : Thread nD τ), semC g) 0
/-- The marks' counter of half `g` reads zero. -/
abbrev cellDP (g : Fin 2) : sProp 𝕄 := semVal ((c : Thread nD τ), semD g) 0
/-- A copy of weights `X` from half `g` to block `u` is under way. -/
abbrev flightC (g : Fin 2) (u : Fin 32) (X : Vec F S2048x512 .f32) : sProp 𝕄 :=
  iprop(∃ f e, ⌜(pieceC u).view.read (Elt F) f = X⌝ ∗ Transfers.Flight countersEmb (c : Thread nD τ) (semC g) default ((pieceC u).view.amount (semC g)) iprop(pieceCP c u f ∗ tileCP c g e))
/-- A copy of marks `Y` from half `g` to block `u` is under way. -/
abbrev flightD (g : Fin 2) (u : Fin 32) (Y : Vec F S128x16x512 .i8) : sProp 𝕄 :=
  iprop(∃ f e, ⌜(pieceD u).view.read (Elt F) f = Y⌝ ∗ Transfers.Flight countersEmb (c : Thread nD τ) (semD g) default ((pieceD u).view.amount (semD g)) iprop(pieceDP c u f ∗ tileDP c g e))
/-- A block home with the values `X`. -/
abbrev doneC (u : Fin 32) (X : Vec F S2048x512 .f32) : sProp 𝕄 := iprop(∃ f, ⌜(pieceC u).view.read (Elt F) f = X⌝ ∗ pieceCP c u f)
/-- Block `u` of the marks result holds `Y`. -/
abbrev doneD (u : Fin 32) (Y : Vec F S128x16x512 .i8) : sProp 𝕄 := iprop(∃ f, ⌜(pieceD u).view.read (Elt F) f = Y⌝ ∗ pieceDP c u f)

/-- The four roles of the ring of depth two over the pairs of copies: halves free, a pair in flight, blocks not yet written, blocks written. -/
abbrev freeR (g : Fin 2) : sProp 𝕄 :=
  iprop((cellCP c g ∗ ∃ e, tileCP c g e) ∗ (cellDP c g ∗ ∃ e, tileDP c g e))
/-- A block still to be written: both results hold anything there. -/
abbrev aheadR (u : Fin 32) : sProp 𝕄 := iprop((∃ f, pieceCP c u f) ∗ (∃ f, pieceDP c u f))
variable (EC : Fin 32 → Vec F S2048x512 .f32) (ED : Fin 32 → Vec F S128x16x512 .i8)
/-- A block being copied, in both results. -/
abbrev inflR (g : Fin 2) (u : Fin 32) : sProp 𝕄 := iprop(flightC c g u (EC u) ∗ flightD c g u (ED u))
/-- A block already written, in both results. -/
abbrev behindR (u : Fin 32) : sProp 𝕄 := iprop(doneC c u (EC u) ∗ doneD c u (ED u))
/-- The ring before step `k`. -/
def ringAt (k : ℕ) : sProp 𝕄 := Ring.AtBΦ 2 (freeR c) (inflR c EC ED) (aheadR c) (behindR c EC ED) k

end Roles

/-! ## The body's names of halves, blocks and cells -/

section Canon

/-- The conditions of the body in closed form over the grid. -/
theorem cond1_iff : ∀ t : Fin grid1.N, k1_cond1 (grid1.coords t) = 1#1 ↔ t.val % 2 = 0 := by decide +kernel
/-- An even step waits for the copies of two steps before exactly from step two on. -/
theorem cond2_iff : ∀ t : Fin grid1.N, k1_cond2 (grid1.coords t) = 1#1 ↔ 2 ≤ t.val := by decide +kernel
/-- The odd branch is taken exactly at odd steps. -/
theorem cond3_iff : ∀ t : Fin grid1.N, k1_cond3 (grid1.coords t) = 1#1 ↔ t.val % 2 = 1 := by decide +kernel
/-- An odd step waits for the copies of two steps before exactly from step two on. -/
theorem cond4_iff : ∀ t : Fin grid1.N, k1_cond4 (grid1.coords t) = 1#1 ↔ 2 ≤ t.val := by decide +kernel
/-- The last branch is taken exactly at the last step. -/
theorem cond5_iff : ∀ t : Fin grid1.N, k1_cond5 (grid1.coords t) = 1#1 ↔ t.val = 31 := by decide +kernel

set_option synthInstance.maxSize 4096 in
/-- Step `t` loads its rows from row `128 t`. -/
theorem off1_eq : ∀ t : Fin grid1.N, k1_off1 (grid1.coords t) = ![128 * t.val, 0] := by decide +kernel
set_option synthInstance.maxSize 4096 in
/-- An even step waits on the weights block of two steps before. -/
theorem off2_eq : ∀ t : Fin grid1.N, k1_cond2 (grid1.coords t) = 1#1 → k1_off2 (grid1.coords t) = ![2048 * (Ring.bk 32 (t.val - 2)).val, 0] := by decide +kernel
set_option synthInstance.maxSize 4096 in
/-- An even step waits on the marks block of two steps before. -/
theorem off3_eq : ∀ t : Fin grid1.N, k1_cond2 (grid1.coords t) = 1#1 → k1_off3 (grid1.coords t) = ![128 * (Ring.bk 32 (t.val - 2)).val, 0, 0] := by decide +kernel
set_option synthInstance.maxSize 4096 in
/-- An even step copies to its own weights block. -/
theorem off4_eq : ∀ t : Fin grid1.N, k1_off4 (grid1.coords t) = ![2048 * (Ring.bk 32 t.val).val, 0] := by decide +kernel
set_option synthInstance.maxSize 4096 in
/-- An even step copies to its own marks block. -/
theorem off5_eq : ∀ t : Fin grid1.N, k1_off5 (grid1.coords t) = ![128 * (Ring.bk 32 t.val).val, 0, 0] := by decide +kernel
/-- An odd step waits on the weights block of two steps before. -/
theorem off6_eq : ∀ t : Fin grid1.N, k1_cond4 (grid1.coords t) = 1#1 → k1_off6 (grid1.coords t) = ![2048 * (Ring.bk 32 (t.val - 2)).val, 0] := off2_eq
/-- An odd step waits on the marks block of two steps before. -/
theorem off7_eq : ∀ t : Fin grid1.N, k1_cond4 (grid1.coords t) = 1#1 → k1_off7 (grid1.coords t) = ![128 * (Ring.bk 32 (t.val - 2)).val, 0, 0] := off3_eq
/-- An odd step copies to its own weights block. -/
theorem off8_eq : ∀ t : Fin grid1.N, k1_off8 (grid1.coords t) = ![2048 * (Ring.bk 32 t.val).val, 0] := off4_eq
/-- An odd step copies to its own marks block. -/
theorem off9_eq : ∀ t : Fin grid1.N, k1_off9 (grid1.coords t) = ![128 * (Ring.bk 32 t.val).val, 0, 0] := off5_eq
set_option synthInstance.maxSize 4096 in
/-- The last step waits on the weights block of the step before. -/
theorem off10_eq0 : ∀ t : Fin grid1.N, k1_cond5 (grid1.coords t) = 1#1 → k1_off10 0#32 = ![2048 * (Ring.bk 32 (t.val - 1)).val, 0] := by decide +kernel
set_option synthInstance.maxSize 4096 in
/-- The last step waits on its own weights block. -/
theorem off10_eq1 : ∀ t : Fin grid1.N, k1_cond5 (grid1.coords t) = 1#1 → k1_off10 1#32 = ![2048 * (Ring.bk 32 t.val).val, 0] := by decide +kernel
set_option synthInstance.maxSize 4096 in
/-- The last step waits on the marks block of the step before. -/
theorem off11_eq0 : ∀ t : Fin grid1.N, k1_cond5 (grid1.coords t) = 1#1 → k1_off11 0#32 = ![128 * (Ring.bk 32 (t.val - 1)).val, 0, 0] := by decide +kernel
set_option synthInstance.maxSize 4096 in
/-- The last step waits on its own marks block. -/
theorem off11_eq1 : ∀ t : Fin grid1.N, k1_cond5 (grid1.coords t) = 1#1 → k1_off11 1#32 = ![128 * (Ring.bk 32 t.val).val, 0, 0] := by decide +kernel

/-- A block of the first result at offsets equal to block `u`'s is block `u`; likewise the second's. -/
theorem pieceC_of {o : Fin 2 → Nat} {u : Fin 32} (h : o = ![2048 * u.val, 0]) (inb : ∀ a, o a + S2048x512.size a ≤ S65536x512.size a) :
    outC.slice (Rect.unit (s := S65536x512) o S2048x512.size inb) (fun _ => rfl) = pieceC u :=
  Memref.slice_unit_congr _ h _ _ (fun _ => rfl) (fun _ => rfl)
/-- A part of the marks result that starts at `128 u` is block `u`. -/
theorem pieceD_of {o : Fin 3 → Nat} {u : Fin 32} (h : o = ![128 * u.val, 0, 0]) (inb : ∀ a, o a + S128x16x512.size a ≤ S4096x16x512.size a) :
    outD.slice (Rect.unit (s := S4096x16x512) o S128x16x512.size inb) (fun _ => rfl) = pieceD u :=
  Memref.slice_unit_congr _ h _ _ (fun _ => rfl) (fun _ => rfl)

@[sl_canon] theorem canonC2 (t : Fin grid1.N) (h1 : k1_cond1 (grid1.coords t) = 1#1) (h2 : k1_cond2 (grid1.coords t) = 1#1) :
    outC.slice (Rect.unit (s := S65536x512) (k1_off2 (grid1.coords t)) S2048x512.size (k1_off2_inb (grid1.coords t) h1 h2)) (fun _ => rfl) = pieceC (Ring.bk 32 (t.val - 2)) :=
  pieceC_of (off2_eq t h2) _
@[sl_canon] theorem canonC2' (t : Fin grid1.N) (h1 : k1_cond1 (grid1.coords t) = 1#1) (h2 : k1_cond2 (grid1.coords t) = 1#1) :
    outC.slice (Rect.unit (s := S65536x512) (k1_off2 (grid1.coords t)) ![2048, 512] (k1_off2_inb (grid1.coords t) h1 h2)) (fun _ => rfl) = pieceC (Ring.bk 32 (t.val - 2)) :=
  pieceC_of (off2_eq t h2) _
@[sl_canon] theorem canonD3 (t : Fin grid1.N) (h1 : k1_cond1 (grid1.coords t) = 1#1) (h2 : k1_cond2 (grid1.coords t) = 1#1) :
    outD.slice (Rect.unit (s := S4096x16x512) (k1_off3 (grid1.coords t)) S128x16x512.size (k1_off3_inb (grid1.coords t) h1 h2)) (fun _ => rfl) = pieceD (Ring.bk 32 (t.val - 2)) :=
  pieceD_of (off3_eq t h2) _
@[sl_canon] theorem canonD3' (t : Fin grid1.N) (h1 : k1_cond1 (grid1.coords t) = 1#1) (h2 : k1_cond2 (grid1.coords t) = 1#1) :
    outD.slice (Rect.unit (s := S4096x16x512) (k1_off3 (grid1.coords t)) ![128, 16, 512] (k1_off3_inb (grid1.coords t) h1 h2)) (fun _ => rfl) = pieceD (Ring.bk 32 (t.val - 2)) :=
  pieceD_of (off3_eq t h2) _
@[sl_canon] theorem canonC4 (t : Fin grid1.N) (h1 : k1_cond1 (grid1.coords t) = 1#1) :
    outC.slice (Rect.unit (s := S65536x512) (k1_off4 (grid1.coords t)) S2048x512.size (k1_off4_inb (grid1.coords t) h1)) (fun _ => rfl) = pieceC (Ring.bk 32 t.val) :=
  pieceC_of (off4_eq t) _
@[sl_canon] theorem canonC4' (t : Fin grid1.N) (h1 : k1_cond1 (grid1.coords t) = 1#1) :
    outC.slice (Rect.unit (s := S65536x512) (k1_off4 (grid1.coords t)) ![2048, 512] (k1_off4_inb (grid1.coords t) h1)) (fun _ => rfl) = pieceC (Ring.bk 32 t.val) :=
  pieceC_of (off4_eq t) _
@[sl_canon] theorem canonD5 (t : Fin grid1.N) (h1 : k1_cond1 (grid1.coords t) = 1#1) :
    outD.slice (Rect.unit (s := S4096x16x512) (k1_off5 (grid1.coords t)) S128x16x512.size (k1_off5_inb (grid1.coords t) h1)) (fun _ => rfl) = pieceD (Ring.bk 32 t.val) :=
  pieceD_of (off5_eq t) _
@[sl_canon] theorem canonD5' (t : Fin grid1.N) (h1 : k1_cond1 (grid1.coords t) = 1#1) :
    outD.slice (Rect.unit (s := S4096x16x512) (k1_off5 (grid1.coords t)) ![128, 16, 512] (k1_off5_inb (grid1.coords t) h1)) (fun _ => rfl) = pieceD (Ring.bk 32 t.val) :=
  pieceD_of (off5_eq t) _
@[sl_canon] theorem canonC6 (t : Fin grid1.N) (h3 : k1_cond3 (grid1.coords t) = 1#1) (h4 : k1_cond4 (grid1.coords t) = 1#1) :
    outC.slice (Rect.unit (s := S65536x512) (k1_off6 (grid1.coords t)) S2048x512.size (k1_off6_inb (grid1.coords t) h3 h4)) (fun _ => rfl) = pieceC (Ring.bk 32 (t.val - 2)) :=
  pieceC_of (off6_eq t h4) _
@[sl_canon] theorem canonC6' (t : Fin grid1.N) (h3 : k1_cond3 (grid1.coords t) = 1#1) (h4 : k1_cond4 (grid1.coords t) = 1#1) :
    outC.slice (Rect.unit (s := S65536x512) (k1_off6 (grid1.coords t)) ![2048, 512] (k1_off6_inb (grid1.coords t) h3 h4)) (fun _ => rfl) = pieceC (Ring.bk 32 (t.val - 2)) :=
  pieceC_of (off6_eq t h4) _
@[sl_canon] theorem canonD7 (t : Fin grid1.N) (h3 : k1_cond3 (grid1.coords t) = 1#1) (h4 : k1_cond4 (grid1.coords t) = 1#1) :
    outD.slice (Rect.unit (s := S4096x16x512) (k1_off7 (grid1.coords t)) S128x16x512.size (k1_off7_inb (grid1.coords t) h3 h4)) (fun _ => rfl) = pieceD (Ring.bk 32 (t.val - 2)) :=
  pieceD_of (off7_eq t h4) _
@[sl_canon] theorem canonD7' (t : Fin grid1.N) (h3 : k1_cond3 (grid1.coords t) = 1#1) (h4 : k1_cond4 (grid1.coords t) = 1#1) :
    outD.slice (Rect.unit (s := S4096x16x512) (k1_off7 (grid1.coords t)) ![128, 16, 512] (k1_off7_inb (grid1.coords t) h3 h4)) (fun _ => rfl) = pieceD (Ring.bk 32 (t.val - 2)) :=
  pieceD_of (off7_eq t h4) _
@[sl_canon] theorem canonC8 (t : Fin grid1.N) (h3 : k1_cond3 (grid1.coords t) = 1#1) :
    outC.slice (Rect.unit (s := S65536x512) (k1_off8 (grid1.coords t)) S2048x512.size (k1_off8_inb (grid1.coords t) h3)) (fun _ => rfl) = pieceC (Ring.bk 32 t.val) :=
  pieceC_of (off8_eq t) _
@[sl_canon] theorem canonC8' (t : Fin grid1.N) (h3 : k1_cond3 (grid1.coords t) = 1#1) :
    outC.slice (Rect.unit (s := S65536x512) (k1_off8 (grid1.coords t)) ![2048, 512] (k1_off8_inb (grid1.coords t) h3)) (fun _ => rfl) = pieceC (Ring.bk 32 t.val) :=
  pieceC_of (off8_eq t) _
@[sl_canon] theorem canonD9 (t : Fin grid1.N) (h3 : k1_cond3 (grid1.coords t) = 1#1) :
    outD.slice (Rect.unit (s := S4096x16x512) (k1_off9 (grid1.coords t)) S128x16x512.size (k1_off9_inb (grid1.coords t) h3)) (fun _ => rfl) = pieceD (Ring.bk 32 t.val) :=
  pieceD_of (off9_eq t) _
@[sl_canon] theorem canonD9' (t : Fin grid1.N) (h3 : k1_cond3 (grid1.coords t) = 1#1) :
    outD.slice (Rect.unit (s := S4096x16x512) (k1_off9 (grid1.coords t)) ![128, 16, 512] (k1_off9_inb (grid1.coords t) h3)) (fun _ => rfl) = pieceD (Ring.bk 32 t.val) :=
  pieceD_of (off9_eq t) _
@[sl_canon] theorem canonC10a (t : Fin grid1.N) (h5 : k1_cond5 (grid1.coords t) = 1#1) :
    outC.slice (Rect.unit (s := S65536x512) (k1_off10 0#32) S2048x512.size (k1_off10_inb (grid1.coords t) h5 0)) (fun _ => rfl) = pieceC (Ring.bk 32 (t.val - 1)) :=
  pieceC_of (off10_eq0 t h5) _
@[sl_canon] theorem canonC10a' (t : Fin grid1.N) (h5 : k1_cond5 (grid1.coords t) = 1#1) :
    outC.slice (Rect.unit (s := S65536x512) (k1_off10 0#32) ![2048, 512] (k1_off10_inb (grid1.coords t) h5 0)) (fun _ => rfl) = pieceC (Ring.bk 32 (t.val - 1)) :=
  pieceC_of (off10_eq0 t h5) _
@[sl_canon] theorem canonC10b (t : Fin grid1.N) (h5 : k1_cond5 (grid1.coords t) = 1#1) :
    outC.slice (Rect.unit (s := S65536x512) (k1_off10 1#32) S2048x512.size (k1_off10_inb (grid1.coords t) h5 1)) (fun _ => rfl) = pieceC (Ring.bk 32 t.val) :=
  pieceC_of (off10_eq1 t h5) _
@[sl_canon] theorem canonC10b' (t : Fin grid1.N) (h5 : k1_cond5 (grid1.coords t) = 1#1) :
    outC.slice (Rect.unit (s := S65536x512) (k1_off10 1#32) ![2048, 512] (k1_off10_inb (grid1.coords t) h5 1)) (fun _ => rfl) = pieceC (Ring.bk 32 t.val) :=
  pieceC_of (off10_eq1 t h5) _
@[sl_canon] theorem canonD11a (t : Fin grid1.N) (h5 : k1_cond5 (grid1.coords t) = 1#1) :
    outD.slice (Rect.unit (s := S4096x16x512) (k1_off11 0#32) S128x16x512.size (k1_off11_inb (grid1.coords t) h5 0)) (fun _ => rfl) = pieceD (Ring.bk 32 (t.val - 1)) :=
  pieceD_of (off11_eq0 t h5) _
@[sl_canon] theorem canonD11a' (t : Fin grid1.N) (h5 : k1_cond5 (grid1.coords t) = 1#1) :
    outD.slice (Rect.unit (s := S4096x16x512) (k1_off11 0#32) ![128, 16, 512] (k1_off11_inb (grid1.coords t) h5 0)) (fun _ => rfl) = pieceD (Ring.bk 32 (t.val - 1)) :=
  pieceD_of (off11_eq0 t h5) _
@[sl_canon] theorem canonD11b (t : Fin grid1.N) (h5 : k1_cond5 (grid1.coords t) = 1#1) :
    outD.slice (Rect.unit (s := S4096x16x512) (k1_off11 1#32) S128x16x512.size (k1_off11_inb (grid1.coords t) h5 1)) (fun _ => rfl) = pieceD (Ring.bk 32 t.val) :=
  pieceD_of (off11_eq1 t h5) _
@[sl_canon] theorem canonD11b' (t : Fin grid1.N) (h5 : k1_cond5 (grid1.coords t) = 1#1) :
    outD.slice (Rect.unit (s := S4096x16x512) (k1_off11 1#32) ![128, 16, 512] (k1_off11_inb (grid1.coords t) h5 1)) (fun _ => rfl) = pieceD (Ring.bk 32 t.val) :=
  pieceD_of (off11_eq1 t h5) _
@[sl_canon] theorem canonTC0 : (bufC.slice (Rect.unit (s := S2x2048x512) ![0, 0, 0] S1x2048x512.size inb_S2x2048x512_S1x2048x512_0_0_0) (fun _ => rfl)).squeeze S2048x512 squeezes_S1x2048x512_S2048x512 = tileC 0 := rfl
@[sl_canon] theorem canonTC0' : (bufC.slice (Rect.unit (s := S2x2048x512) ![0, 0, 0] ![1, 2048, 512] inb_S2x2048x512_S1x2048x512_0_0_0) (fun _ => rfl)).squeeze S2048x512 squeezes_S1x2048x512_S2048x512 = tileC 0 := rfl
@[sl_canon] theorem canonTD0 : (bufD.slice (Rect.unit (s := S2x128x16x512) ![0, 0, 0, 0] S1x128x16x512.size inb_S2x128x16x512_S1x128x16x512_0_0_0_0) (fun _ => rfl)).squeeze S128x16x512 squeezes_S1x128x16x512_S128x16x512 = tileD 0 := rfl
@[sl_canon] theorem canonTD0' : (bufD.slice (Rect.unit (s := S2x128x16x512) ![0, 0, 0, 0] ![1, 128, 16, 512] inb_S2x128x16x512_S1x128x16x512_0_0_0_0) (fun _ => rfl)).squeeze S128x16x512 squeezes_S1x128x16x512_S128x16x512 = tileD 0 := rfl
@[sl_canon] theorem canonSC0 : (cc1_scratch2.slice (Rect.unit (s := S2x2) ![0, 0] S1x1.size inb_S2x2_S1x1_0_0)).squeeze S_ squeezes_S1x1_S_ = cellC 0 := rfl
@[sl_canon] theorem canonSC0' : (cc1_scratch2.slice (Rect.unit (s := S2x2) ![0, 0] ![1, 1] inb_S2x2_S1x1_0_0)).squeeze S_ squeezes_S1x1_S_ = cellC 0 := rfl
@[sl_canon] theorem canonSD0 : (cc1_scratch2.slice (Rect.unit (s := S2x2) ![1, 0] S1x1.size inb_S2x2_S1x1_1_0)).squeeze S_ squeezes_S1x1_S_ = cellD 0 := rfl
@[sl_canon] theorem canonSD0' : (cc1_scratch2.slice (Rect.unit (s := S2x2) ![1, 0] ![1, 1] inb_S2x2_S1x1_1_0)).squeeze S_ squeezes_S1x1_S_ = cellD 0 := rfl
@[sl_canon] theorem canonTC1 : (bufC.slice (Rect.unit (s := S2x2048x512) ![1, 0, 0] S1x2048x512.size inb_S2x2048x512_S1x2048x512_1_0_0) (fun _ => rfl)).squeeze S2048x512 squeezes_S1x2048x512_S2048x512 = tileC 1 := rfl
@[sl_canon] theorem canonTC1' : (bufC.slice (Rect.unit (s := S2x2048x512) ![1, 0, 0] ![1, 2048, 512] inb_S2x2048x512_S1x2048x512_1_0_0) (fun _ => rfl)).squeeze S2048x512 squeezes_S1x2048x512_S2048x512 = tileC 1 := rfl
@[sl_canon] theorem canonTD1 : (bufD.slice (Rect.unit (s := S2x128x16x512) ![1, 0, 0, 0] S1x128x16x512.size inb_S2x128x16x512_S1x128x16x512_1_0_0_0) (fun _ => rfl)).squeeze S128x16x512 squeezes_S1x128x16x512_S128x16x512 = tileD 1 := rfl
@[sl_canon] theorem canonTD1' : (bufD.slice (Rect.unit (s := S2x128x16x512) ![1, 0, 0, 0] ![1, 128, 16, 512] inb_S2x128x16x512_S1x128x16x512_1_0_0_0) (fun _ => rfl)).squeeze S128x16x512 squeezes_S1x128x16x512_S128x16x512 = tileD 1 := rfl
@[sl_canon] theorem canonSC1 : (cc1_scratch2.slice (Rect.unit (s := S2x2) ![0, 1] S1x1.size inb_S2x2_S1x1_0_1)).squeeze S_ squeezes_S1x1_S_ = cellC 1 := rfl
@[sl_canon] theorem canonSC1' : (cc1_scratch2.slice (Rect.unit (s := S2x2) ![0, 1] ![1, 1] inb_S2x2_S1x1_0_1)).squeeze S_ squeezes_S1x1_S_ = cellC 1 := rfl
@[sl_canon] theorem canonSD1 : (cc1_scratch2.slice (Rect.unit (s := S2x2) ![1, 1] S1x1.size inb_S2x2_S1x1_1_1)).squeeze S_ squeezes_S1x1_S_ = cellD 1 := rfl
@[sl_canon] theorem canonSD1' : (cc1_scratch2.slice (Rect.unit (s := S2x2) ![1, 1] ![1, 1] inb_S2x2_S1x1_1_1)).squeeze S_ squeezes_S1x1_S_ = cellD 1 := rfl
end Canon

end Cert.KernelIdeal.Expand

end
-- ==== Proof.ExpandRun.lean ====
module

public import proofs.«01_k».proof.Proof.ExpandRing

@[expose] public section

set_option maxRecDepth 16384

noncomputable section

namespace Cert.KernelIdeal.Expand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## What step `t` computes -/

/-- The column of counts the second call reads off the first call's small result, and the 128 rows of the other one step `t` reads. -/
def headAux (x0 : Vec F S1x32 .f32) : Vec F S1x16 .f32 := View.ld x0 (Rect.unit (s := S1x32) ![0, 0] S1x16.size inb_S1x32_S1x16_0_0)
/-- The 128 rows of per-token data step `t` reads. -/
def rowsAt (x1 : Vec F S4096x80 .f32) (t : Fin grid1.N) : Vec F S128x80 .f32 :=
  View.ld x1 (Rect.unit (s := S4096x80) (k1_off1 (grid1.coords t)) S128x80.size (k1_off1_inb (grid1.coords t)))
/-- The block of weights and the block of marks step `t` writes. -/
def blkC (x0 : Vec F S1x32 .f32) (x1 : Vec F S4096x80 .f32) (t : Fin grid1.N) : Vec F S2048x512 .f32 :=
  k1_pay2 (k1_pay14 (headAux x0) (rowsAt x1 t)) (k1_pay15 (headAux x0) (rowsAt x1 t))
/-- The block of marks step `t` writes. -/
def blkD (x0 : Vec F S1x32 .f32) (x1 : Vec F S4096x80 .f32) (t : Fin grid1.N) : Vec F S128x16x512 .i8 :=
  k1_pay3 (k1_pay14 (headAux x0) (rowsAt x1 t)) (k1_pay15 (headAux x0) (rowsAt x1 t))

omit [FloatOps F] in
/-- A half read back as a block after the block was stored in it is the block. -/
theorem read_halfC0 (e : (bufC.access (Rect.unit (s := S2x2048x512) ![0, 0, 0] S1x2048x512.size inb_S2x2048x512_S1x2048x512_0_0_0)).ty.Contents (Elt F)) (x : Vec F S2048x512 .f32) :
    View.read (Elt F) (tileC 0).view (View.write (Elt F) (bufC.access (Rect.unit (s := S2x2048x512) ![0, 0, 0] S1x2048x512.size inb_S2x2048x512_S1x2048x512_0_0_0)) e (shapeCast S1x2048x512 x shapeCasts_S2048x512_S1x2048x512) Finset.univ) = x := by
  funext y
  refine (congrFun (View.read_write_univ (v := bufC.access (Rect.unit (s := S2x2048x512) ![0, 0, 0] S1x2048x512.size inb_S2x2048x512_S1x2048x512_0_0_0)) e (shapeCast S1x2048x512 x shapeCasts_S2048x512_S1x2048x512)) (Shape.reshapeEquiv squeezes_S1x2048x512_S2048x512.numel_eq y)).trans ?_
  exact congrArg x (by rw [Shape.reshapeEquiv_reshapeEquiv, Shape.reshapeEquiv_self])
omit [FloatOps F] in
/-- The same for the second half of the weights buffer. -/
theorem read_halfC1 (e : (bufC.access (Rect.unit (s := S2x2048x512) ![1, 0, 0] S1x2048x512.size inb_S2x2048x512_S1x2048x512_1_0_0)).ty.Contents (Elt F)) (x : Vec F S2048x512 .f32) :
    View.read (Elt F) (tileC 1).view (View.write (Elt F) (bufC.access (Rect.unit (s := S2x2048x512) ![1, 0, 0] S1x2048x512.size inb_S2x2048x512_S1x2048x512_1_0_0)) e (shapeCast S1x2048x512 x shapeCasts_S2048x512_S1x2048x512) Finset.univ) = x := by
  funext y
  refine (congrFun (View.read_write_univ (v := bufC.access (Rect.unit (s := S2x2048x512) ![1, 0, 0] S1x2048x512.size inb_S2x2048x512_S1x2048x512_1_0_0)) e (shapeCast S1x2048x512 x shapeCasts_S2048x512_S1x2048x512)) (Shape.reshapeEquiv squeezes_S1x2048x512_S2048x512.numel_eq y)).trans ?_
  exact congrArg x (by rw [Shape.reshapeEquiv_reshapeEquiv, Shape.reshapeEquiv_self])
omit [FloatOps F] in
/-- The same for the first half of the marks buffer. -/
theorem read_halfD0 (e : (bufD.access (Rect.unit (s := S2x128x16x512) ![0, 0, 0, 0] S1x128x16x512.size inb_S2x128x16x512_S1x128x16x512_0_0_0_0)).ty.Contents (Elt F)) (x : Vec F S128x16x512 .i8) :
    View.read (Elt F) (tileD 0).view (View.write (Elt F) (bufD.access (Rect.unit (s := S2x128x16x512) ![0, 0, 0, 0] S1x128x16x512.size inb_S2x128x16x512_S1x128x16x512_0_0_0_0)) e (shapeCast S1x128x16x512 x shapeCasts_S128x16x512_S1x128x16x512) Finset.univ) = x := by
  funext y
  refine (congrFun (View.read_write_univ (v := bufD.access (Rect.unit (s := S2x128x16x512) ![0, 0, 0, 0] S1x128x16x512.size inb_S2x128x16x512_S1x128x16x512_0_0_0_0)) e (shapeCast S1x128x16x512 x shapeCasts_S128x16x512_S1x128x16x512)) (Shape.reshapeEquiv squeezes_S1x128x16x512_S128x16x512.numel_eq y)).trans ?_
  exact congrArg x (by rw [Shape.reshapeEquiv_reshapeEquiv, Shape.reshapeEquiv_self])
omit [FloatOps F] in
/-- The same for the second half of the marks buffer. -/
theorem read_halfD1 (e : (bufD.access (Rect.unit (s := S2x128x16x512) ![1, 0, 0, 0] S1x128x16x512.size inb_S2x128x16x512_S1x128x16x512_1_0_0_0)).ty.Contents (Elt F)) (x : Vec F S128x16x512 .i8) :
    View.read (Elt F) (tileD 1).view (View.write (Elt F) (bufD.access (Rect.unit (s := S2x128x16x512) ![1, 0, 0, 0] S1x128x16x512.size inb_S2x128x16x512_S1x128x16x512_1_0_0_0)) e (shapeCast S1x128x16x512 x shapeCasts_S128x16x512_S1x128x16x512) Finset.univ) = x := by
  funext y
  refine (congrFun (View.read_write_univ (v := bufD.access (Rect.unit (s := S2x128x16x512) ![1, 0, 0, 0] S1x128x16x512.size inb_S2x128x16x512_S1x128x16x512_1_0_0_0)) e (shapeCast S1x128x16x512 x shapeCasts_S128x16x512_S1x128x16x512)) (Shape.reshapeEquiv squeezes_S1x128x16x512_S128x16x512.numel_eq y)).trans ?_
  exact congrArg x (by rw [Shape.reshapeEquiv_reshapeEquiv, Shape.reshapeEquiv_self])

/-! ## The body's run, case by case -/

set_option maxHeartbeats 1000000 in
/-- The first even step: nothing is waited for, both copies out of half 0 are started. -/
theorem run_first0 (c : Dev nD) (t : Fin grid1.N) (arg1 : Memref sig .tc .vmem S1x32 .f32) (harg1 : arg1.IsWhole) (arg2 : Memref sig .tc .vmem S4096x80 .f32) (harg2 : arg2.IsWhole)
    (h1 : k1_cond1 (grid1.coords t) = 1#1) (h2 : ¬k1_cond2 (grid1.coords t) = 1#1) (h3 : ¬k1_cond3 (grid1.coords t) = 1#1) (h5 : ¬k1_cond5 (grid1.coords t) = 1#1)
    (x0 : Vec F S1x32 .f32) (x1 : Vec F S4096x80 .f32) (W : Waits sig Unit) (K : PUnit → sProp 𝕄) :
    iprop(owns (c : Thread nD τ) arg1 fullShare x0 ∗ owns (c : Thread nD τ) arg2 fullShare x1
        ∗ (∃ f, pieceCP c (Ring.bk 32 t.val) f) ∗ (∃ f, pieceDP c (Ring.bk 32 t.val) f)
        ∗ cellCP c 0 ∗ (∃ e, tileCP c 0 e) ∗ cellDP c 0 ∗ (∃ e, tileDP c 0 e) ∗ owes (c : Thread nD τ) 0 W
        ∗ (iprop(owns (c : Thread nD τ) arg1 fullShare x0 ∗ owns (c : Thread nD τ) arg2 fullShare x1
            ∗ flightC c 0 (Ring.bk 32 t.val) (blkC x0 x1 t) ∗ flightD c 0 (Ring.bk 32 t.val) (blkD x0 x1 t) ∗ (∃ W', owes (c : Thread nD τ) 0 W')) -∗ K ⟨⟩))
      ⊢ wp frame (wpE (defs₀ (F := F)) Variants.none c none) Set.univ (cc1__expand_body (grid1.coords t) arg1 harg1 arg2 harg2 outC (Memref.isWhole_whole _) outD (Memref.isWhole_whole _) bufC (Memref.isWhole_whole _) bufD (Memref.isWhole_whole _) cc1_scratch2) K := by
  haveI : Fact (k1_cond1 (grid1.coords t) = 1#1) := ⟨h1⟩
  haveI : Fact (¬k1_cond2 (grid1.coords t) = 1#1) := ⟨h2⟩
  haveI : Fact (¬k1_cond3 (grid1.coords t) = 1#1) := ⟨h3⟩
  haveI : Fact (¬k1_cond5 (grid1.coords t) = 1#1) := ⟨h5⟩
  simp only [cc1__expand_body_eq_skeleton]; unfold cc1__expand_body_skel
  simp only [k1_part1_eq_skeleton, k1_part2_eq_skeleton]
  unfold owns
  iintro ⟨⟨%f0, %hf0, H0⟩, ⟨%f1, %hf1, H1⟩, ⟨%fc, HC⟩, ⟨%fd, HD⟩, HFC, ⟨%ec, HTC⟩, HFD, ⟨%ed, HTD⟩, HW, Hk⟩
  obtain rfl := harg1.eq_unread hf0; obtain rfl := harg2.eq_unread hf1
  sl_exec (disch := first | sl_exact h1 | sl_exact h2 | sl_exact h3 | sl_exact h5)
  sl_step
  iapply Hk
  isplitl [H0]
  · iexists _; isplitr; · ipureintro; exact harg1.read_unread _
    iexact H0
  isplitl [H1]
  · iexists _; isplitr; · ipureintro; exact harg2.read_unread _
    iexact H1
  isplitl [HFC]
  · iexists _, _; isplitr; swap; · iexact HFC
    ipureintro
    sl_unfold_run_names
    rw [View.read_writes_whole]
    simp only [View.readAt_eq_ld, hf0, hf1]
    exact read_halfC0 _ _
  isplitl [HFD]
  · iexists _, _; isplitr; swap; · iexact HFD
    ipureintro
    sl_unfold_run_names
    rw [View.read_writes_whole]
    simp only [View.readAt_eq_ld, hf0, hf1]
    exact read_halfD0 _ _
  iexists _; iexact HW

set_option maxHeartbeats 1000000 in
/-- A later even step: the two copies of two steps ago are waited for, both copies out of half 0 are started. -/
theorem run_even (c : Dev nD) (t : Fin grid1.N) (arg1 : Memref sig .tc .vmem S1x32 .f32) (harg1 : arg1.IsWhole) (arg2 : Memref sig .tc .vmem S4096x80 .f32) (harg2 : arg2.IsWhole)
    (h1 : k1_cond1 (grid1.coords t) = 1#1) (h2 : k1_cond2 (grid1.coords t) = 1#1) (h3 : ¬k1_cond3 (grid1.coords t) = 1#1) (h5 : ¬k1_cond5 (grid1.coords t) = 1#1)
    (x0 : Vec F S1x32 .f32) (x1 : Vec F S4096x80 .f32) (X : Vec F S2048x512 .f32) (Y : Vec F S128x16x512 .i8) (W : Waits sig Unit) (K : PUnit → sProp 𝕄) :
    iprop(owns (c : Thread nD τ) arg1 fullShare x0 ∗ owns (c : Thread nD τ) arg2 fullShare x1
        ∗ (∃ f, pieceCP c (Ring.bk 32 t.val) f) ∗ (∃ f, pieceDP c (Ring.bk 32 t.val) f)
        ∗ flightC c 0 (Ring.bk 32 (t.val - 2)) X ∗ flightD c 0 (Ring.bk 32 (t.val - 2)) Y ∗ owes (c : Thread nD τ) 0 W
        ∗ (iprop(owns (c : Thread nD τ) arg1 fullShare x0 ∗ owns (c : Thread nD τ) arg2 fullShare x1
            ∗ doneC c (Ring.bk 32 (t.val - 2)) X ∗ doneD c (Ring.bk 32 (t.val - 2)) Y
            ∗ flightC c 0 (Ring.bk 32 t.val) (blkC x0 x1 t) ∗ flightD c 0 (Ring.bk 32 t.val) (blkD x0 x1 t) ∗ (∃ W', owes (c : Thread nD τ) 0 W')) -∗ K ⟨⟩))
      ⊢ wp frame (wpE (defs₀ (F := F)) Variants.none c none) Set.univ (cc1__expand_body (grid1.coords t) arg1 harg1 arg2 harg2 outC (Memref.isWhole_whole _) outD (Memref.isWhole_whole _) bufC (Memref.isWhole_whole _) bufD (Memref.isWhole_whole _) cc1_scratch2) K := by
  haveI : Fact (k1_cond1 (grid1.coords t) = 1#1) := ⟨h1⟩
  haveI : Fact (k1_cond2 (grid1.coords t) = 1#1) := ⟨h2⟩
  haveI : Fact (¬k1_cond3 (grid1.coords t) = 1#1) := ⟨h3⟩
  haveI : Fact (¬k1_cond5 (grid1.coords t) = 1#1) := ⟨h5⟩
  simp only [cc1__expand_body_eq_skeleton]; unfold cc1__expand_body_skel
  simp only [k1_part1_eq_skeleton, k1_part2_eq_skeleton]
  unfold owns
  iintro ⟨⟨%f0, %hf0, H0⟩, ⟨%f1, %hf1, H1⟩, ⟨%fc, HC⟩, ⟨%fd, HD⟩, ⟨%ac, %ec, %hc, HFC⟩, ⟨%ad, %ed, %hd, HFD⟩, HW, Hk⟩
  obtain rfl := harg1.eq_unread hf0; obtain rfl := harg2.eq_unread hf1
  sl_exec (disch := first | sl_exact h1 | sl_exact h2 | sl_exact h3 | sl_exact h5)
  sl_step
  iapply Hk
  isplitl [H0]
  · iexists _; isplitr; · ipureintro; exact harg1.read_unread _
    iexact H0
  isplitl [H1]
  · iexists _; isplitr; · ipureintro; exact harg2.read_unread _
    iexact H1
  isplitl [HFC_dst]
  · iexists _; isplitr; swap; · iexact HFC_dst
    ipureintro; exact hc
  isplitl [HFD_dst]
  · iexists _; isplitr; swap; · iexact HFD_dst
    ipureintro; exact hd
  isplitl [HFC]
  · iexists _, _; isplitr; swap; · iexact HFC
    ipureintro
    sl_unfold_run_names
    rw [View.read_writes_whole]
    simp only [View.readAt_eq_ld, hf0, hf1]
    exact read_halfC0 _ _
  isplitl [HFD]
  · iexists _, _; isplitr; swap; · iexact HFD
    ipureintro
    sl_unfold_run_names
    rw [View.read_writes_whole]
    simp only [View.readAt_eq_ld, hf0, hf1]
    exact read_halfD0 _ _
  iexists _; iexact HW

set_option maxHeartbeats 1000000 in
/-- The first odd step: nothing is waited for, both copies out of half 1 are started. -/
theorem run_first1 (c : Dev nD) (t : Fin grid1.N) (arg1 : Memref sig .tc .vmem S1x32 .f32) (harg1 : arg1.IsWhole) (arg2 : Memref sig .tc .vmem S4096x80 .f32) (harg2 : arg2.IsWhole)
    (h1 : ¬k1_cond1 (grid1.coords t) = 1#1) (h3 : k1_cond3 (grid1.coords t) = 1#1) (h4 : ¬k1_cond4 (grid1.coords t) = 1#1) (h5 : ¬k1_cond5 (grid1.coords t) = 1#1)
    (x0 : Vec F S1x32 .f32) (x1 : Vec F S4096x80 .f32) (W : Waits sig Unit) (K : PUnit → sProp 𝕄) :
    iprop(owns (c : Thread nD τ) arg1 fullShare x0 ∗ owns (c : Thread nD τ) arg2 fullShare x1
        ∗ (∃ f, pieceCP c (Ring.bk 32 t.val) f) ∗ (∃ f, pieceDP c (Ring.bk 32 t.val) f)
        ∗ cellCP c 1 ∗ (∃ e, tileCP c 1 e) ∗ cellDP c 1 ∗ (∃ e, tileDP c 1 e) ∗ owes (c : Thread nD τ) 0 W
        ∗ (iprop(owns (c : Thread nD τ) arg1 fullShare x0 ∗ owns (c : Thread nD τ) arg2 fullShare x1
            ∗ flightC c 1 (Ring.bk 32 t.val) (blkC x0 x1 t) ∗ flightD c 1 (Ring.bk 32 t.val) (blkD x0 x1 t) ∗ (∃ W', owes (c : Thread nD τ) 0 W')) -∗ K ⟨⟩))
      ⊢ wp frame (wpE (defs₀ (F := F)) Variants.none c none) Set.univ (cc1__expand_body (grid1.coords t) arg1 harg1 arg2 harg2 outC (Memref.isWhole_whole _) outD (Memref.isWhole_whole _) bufC (Memref.isWhole_whole _) bufD (Memref.isWhole_whole _) cc1_scratch2) K := by
  haveI : Fact (¬k1_cond1 (grid1.coords t) = 1#1) := ⟨h1⟩
  haveI : Fact (k1_cond3 (grid1.coords t) = 1#1) := ⟨h3⟩
  haveI : Fact (¬k1_cond4 (grid1.coords t) = 1#1) := ⟨h4⟩
  haveI : Fact (¬k1_cond5 (grid1.coords t) = 1#1) := ⟨h5⟩
  simp only [cc1__expand_body_eq_skeleton]; unfold cc1__expand_body_skel
  simp only [k1_part1_eq_skeleton, k1_part2_eq_skeleton]
  unfold owns
  iintro ⟨⟨%f0, %hf0, H0⟩, ⟨%f1, %hf1, H1⟩, ⟨%fc, HC⟩, ⟨%fd, HD⟩, HFC, ⟨%ec, HTC⟩, HFD, ⟨%ed, HTD⟩, HW, Hk⟩
  obtain rfl := harg1.eq_unread hf0; obtain rfl := harg2.eq_unread hf1
  sl_exec (disch := first | sl_exact h1 | sl_exact h3 | sl_exact h4 | sl_exact h5)
  sl_step
  iapply Hk
  isplitl [H0]
  · iexists _; isplitr; · ipureintro; exact harg1.read_unread _
    iexact H0
  isplitl [H1]
  · iexists _; isplitr; · ipureintro; exact harg2.read_unread _
    iexact H1
  isplitl [HFC]
  · iexists _, _; isplitr; swap; · iexact HFC
    ipureintro
    sl_unfold_run_names
    rw [View.read_writes_whole]
    simp only [View.readAt_eq_ld, hf0, hf1]
    exact read_halfC1 _ _
  isplitl [HFD]
  · iexists _, _; isplitr; swap; · iexact HFD
    ipureintro
    sl_unfold_run_names
    rw [View.read_writes_whole]
    simp only [View.readAt_eq_ld, hf0, hf1]
    exact read_halfD1 _ _
  iexists _; iexact HW

set_option maxHeartbeats 1000000 in
/-- A later odd step: the two copies of two steps ago are waited for, both copies out of half 1 are started. -/
theorem run_odd (c : Dev nD) (t : Fin grid1.N) (arg1 : Memref sig .tc .vmem S1x32 .f32) (harg1 : arg1.IsWhole) (arg2 : Memref sig .tc .vmem S4096x80 .f32) (harg2 : arg2.IsWhole)
    (h1 : ¬k1_cond1 (grid1.coords t) = 1#1) (h3 : k1_cond3 (grid1.coords t) = 1#1) (h4 : k1_cond4 (grid1.coords t) = 1#1) (h5 : ¬k1_cond5 (grid1.coords t) = 1#1)
    (x0 : Vec F S1x32 .f32) (x1 : Vec F S4096x80 .f32) (X : Vec F S2048x512 .f32) (Y : Vec F S128x16x512 .i8) (W : Waits sig Unit) (K : PUnit → sProp 𝕄) :
    iprop(owns (c : Thread nD τ) arg1 fullShare x0 ∗ owns (c : Thread nD τ) arg2 fullShare x1
        ∗ (∃ f, pieceCP c (Ring.bk 32 t.val) f) ∗ (∃ f, pieceDP c (Ring.bk 32 t.val) f)
        ∗ flightC c 1 (Ring.bk 32 (t.val - 2)) X ∗ flightD c 1 (Ring.bk 32 (t.val - 2)) Y ∗ owes (c : Thread nD τ) 0 W
        ∗ (iprop(owns (c : Thread nD τ) arg1 fullShare x0 ∗ owns (c : Thread nD τ) arg2 fullShare x1
            ∗ doneC c (Ring.bk 32 (t.val - 2)) X ∗ doneD c (Ring.bk 32 (t.val - 2)) Y
            ∗ flightC c 1 (Ring.bk 32 t.val) (blkC x0 x1 t) ∗ flightD c 1 (Ring.bk 32 t.val) (blkD x0 x1 t) ∗ (∃ W', owes (c : Thread nD τ) 0 W')) -∗ K ⟨⟩))
      ⊢ wp frame (wpE (defs₀ (F := F)) Variants.none c none) Set.univ (cc1__expand_body (grid1.coords t) arg1 harg1 arg2 harg2 outC (Memref.isWhole_whole _) outD (Memref.isWhole_whole _) bufC (Memref.isWhole_whole _) bufD (Memref.isWhole_whole _) cc1_scratch2) K := by
  haveI : Fact (¬k1_cond1 (grid1.coords t) = 1#1) := ⟨h1⟩
  haveI : Fact (k1_cond3 (grid1.coords t) = 1#1) := ⟨h3⟩
  haveI : Fact (k1_cond4 (grid1.coords t) = 1#1) := ⟨h4⟩
  haveI : Fact (¬k1_cond5 (grid1.coords t) = 1#1) := ⟨h5⟩
  simp only [cc1__expand_body_eq_skeleton]; unfold cc1__expand_body_skel
  simp only [k1_part1_eq_skeleton, k1_part2_eq_skeleton]
  unfold owns
  iintro ⟨⟨%f0, %hf0, H0⟩, ⟨%f1, %hf1, H1⟩, ⟨%fc, HC⟩, ⟨%fd, HD⟩, ⟨%ac, %ec, %hc, HFC⟩, ⟨%ad, %ed, %hd, HFD⟩, HW, Hk⟩
  obtain rfl := harg1.eq_unread hf0; obtain rfl := harg2.eq_unread hf1
  sl_exec (disch := first | sl_exact h1 | sl_exact h3 | sl_exact h4 | sl_exact h5)
  sl_step
  iapply Hk
  isplitl [H0]
  · iexists _; isplitr; · ipureintro; exact harg1.read_unread _
    iexact H0
  isplitl [H1]
  · iexists _; isplitr; · ipureintro; exact harg2.read_unread _
    iexact H1
  isplitl [HFC_dst]
  · iexists _; isplitr; swap; · iexact HFC_dst
    ipureintro; exact hc
  isplitl [HFD_dst]
  · iexists _; isplitr; swap; · iexact HFD_dst
    ipureintro; exact hd
  isplitl [HFC]
  · iexists _, _; isplitr; swap; · iexact HFC
    ipureintro
    sl_unfold_run_names
    rw [View.read_writes_whole]
    simp only [View.readAt_eq_ld, hf0, hf1]
    exact read_halfC1 _ _
  isplitl [HFD]
  · iexists _, _; isplitr; swap; · iexact HFD
    ipureintro
    sl_unfold_run_names
    rw [View.read_writes_whole]
    simp only [View.readAt_eq_ld, hf0, hf1]
    exact read_halfD1 _ _
  iexists _; iexact HW

set_option maxHeartbeats 1000000 in
/-- The last step: the two copies of two steps ago are waited for, both copies out of half 1 are started, and all four copies in flight are waited for. -/
theorem run_last (c : Dev nD) (t : Fin grid1.N) (arg1 : Memref sig .tc .vmem S1x32 .f32) (harg1 : arg1.IsWhole) (arg2 : Memref sig .tc .vmem S4096x80 .f32) (harg2 : arg2.IsWhole)
    (h1 : ¬k1_cond1 (grid1.coords t) = 1#1) (h3 : k1_cond3 (grid1.coords t) = 1#1) (h4 : k1_cond4 (grid1.coords t) = 1#1) (h5 : k1_cond5 (grid1.coords t) = 1#1)
    (x0 : Vec F S1x32 .f32) (x1 : Vec F S4096x80 .f32) (X : Vec F S2048x512 .f32) (Y : Vec F S128x16x512 .i8) (X' : Vec F S2048x512 .f32) (Y' : Vec F S128x16x512 .i8) (W : Waits sig Unit) (K : PUnit → sProp 𝕄) :
    iprop(owns (c : Thread nD τ) arg1 fullShare x0 ∗ owns (c : Thread nD τ) arg2 fullShare x1
        ∗ (∃ f, pieceCP c (Ring.bk 32 t.val) f) ∗ (∃ f, pieceDP c (Ring.bk 32 t.val) f)
        ∗ flightC c 1 (Ring.bk 32 (t.val - 2)) X ∗ flightD c 1 (Ring.bk 32 (t.val - 2)) Y ∗ flightC c 0 (Ring.bk 32 (t.val - 1)) X' ∗ flightD c 0 (Ring.bk 32 (t.val - 1)) Y' ∗ owes (c : Thread nD τ) 0 W
        ∗ (iprop(owns (c : Thread nD τ) arg1 fullShare x0 ∗ owns (c : Thread nD τ) arg2 fullShare x1
            ∗ doneC c (Ring.bk 32 (t.val - 2)) X ∗ doneD c (Ring.bk 32 (t.val - 2)) Y
            ∗ doneC c (Ring.bk 32 (t.val - 1)) X' ∗ doneD c (Ring.bk 32 (t.val - 1)) Y' ∗ doneC c (Ring.bk 32 t.val) (blkC x0 x1 t) ∗ doneD c (Ring.bk 32 t.val) (blkD x0 x1 t)
            ∗ (cellCP c 0 ∗ ∃ e, tileCP c 0 e) ∗ (cellDP c 0 ∗ ∃ e, tileDP c 0 e) ∗ (cellCP c 1 ∗ ∃ e, tileCP c 1 e) ∗ (cellDP c 1 ∗ ∃ e, tileDP c 1 e) ∗ (∃ W', owes (c : Thread nD τ) 0 W')) -∗ K ⟨⟩))
      ⊢ wp frame (wpE (defs₀ (F := F)) Variants.none c none) Set.univ (cc1__expand_body (grid1.coords t) arg1 harg1 arg2 harg2 outC (Memref.isWhole_whole _) outD (Memref.isWhole_whole _) bufC (Memref.isWhole_whole _) bufD (Memref.isWhole_whole _) cc1_scratch2) K := by
  haveI : Fact (¬k1_cond1 (grid1.coords t) = 1#1) := ⟨h1⟩
  haveI : Fact (k1_cond3 (grid1.coords t) = 1#1) := ⟨h3⟩
  haveI : Fact (k1_cond4 (grid1.coords t) = 1#1) := ⟨h4⟩
  haveI : Fact (k1_cond5 (grid1.coords t) = 1#1) := ⟨h5⟩
  simp only [cc1__expand_body_eq_skeleton]; unfold cc1__expand_body_skel
  simp only [k1_part1_eq_skeleton, k1_part2_eq_skeleton]
  unfold owns
  iintro ⟨⟨%f0, %hf0, H0⟩, ⟨%f1, %hf1, H1⟩, ⟨%fc, HC⟩, ⟨%fd, HD⟩, ⟨%ac, %ec, %hc, HFC⟩, ⟨%ad, %ed, %hd, HFD⟩, ⟨%ac', %ec', %hc', HGC⟩, ⟨%ad', %ed', %hd', HGD⟩, HW, Hk⟩
  obtain rfl := harg1.eq_unread hf0; obtain rfl := harg2.eq_unread hf1
  sl_exec (disch := first | sl_exact h1 | sl_exact h3 | sl_exact h4 | sl_exact h5)
  sl_step
  iapply Hk
  isplitl [H0]
  · iexists _; isplitr; · ipureintro; exact harg1.read_unread _
    iexact H0
  isplitl [H1]
  · iexists _; isplitr; · ipureintro; exact harg2.read_unread _
    iexact H1
  isplitl [HFC_dst]
  · iexists _; isplitr; swap; · iexact HFC_dst
    ipureintro; exact hc
  isplitl [HFD_dst]
  · iexists _; isplitr; swap; · iexact HFD_dst
    ipureintro; exact hd
  isplitl [HGC_dst]
  · iexists _; isplitr; swap; · iexact HGC_dst
    ipureintro; exact hc'
  isplitl [HGD_dst]
  · iexists _; isplitr; swap; · iexact HGD_dst
    ipureintro; exact hd'
  isplitl [HC]
  · iexists _; isplitr; swap; · iexact HC
    ipureintro
    sl_unfold_run_names
    rw [View.read_writes_whole]
    simp only [View.readAt_eq_ld, hf0, hf1]
    exact read_halfC1 _ _
  isplitl [HD]
  · iexists _; isplitr; swap; · iexact HD
    ipureintro
    sl_unfold_run_names
    rw [View.read_writes_whole]
    simp only [View.readAt_eq_ld, hf0, hf1]
    exact read_halfD1 _ _
  isplitl [HGC HGC_src]
  · isplitl [HGC]; · iexact HGC
    iexists _; iexact HGC_src
  isplitl [HGD HGD_src]
  · isplitl [HGD]; · iexact HGD
    iexists _; iexact HGD_src
  isplitl [HFC HFC_src]
  · isplitl [HFC]; · iexact HFC
    iexists _; iexact HFC_src
  isplitl [HFD HFD_src]
  · isplitl [HFD]; · iexact HFD
    iexists _; iexact HFD_src
  iexists _; iexact HW

end Cert.KernelIdeal.Expand

end
-- ==== Proof.ExpandParts.lean ====
module

public import proofs.«01_k».proof.Proof.ExpandRun
public import Idealize.ShloMosaic.Lib.ValueIdx
public import Idealize.ShloMosaic.Lib.Claim

@[expose] public section

set_option maxRecDepth 16384

noncomputable section

namespace Cert.KernelIdeal.Expand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ (Pipeline.UD sig nD τ) ℕ

/-! ## Halves and blocks as sets of elements -/

/-- The elements of half `g` of the weights buffer. -/
abbrev setTC (g : Fin 2) : Finset S2x2048x512.Idx := (Rect.unit (s := S2x2048x512) ![g.val, 0, 0] S1x2048x512.size (inb_tileC g)).set
/-- The elements of half `g` of the marks buffer. -/
abbrev setTD (g : Fin 2) : Finset S2x128x16x512.Idx := (Rect.unit (s := S2x128x16x512) ![g.val, 0, 0, 0] S1x128x16x512.size (inb_tileD g)).set
/-- The elements of block `u` of the weights result. -/
abbrev setPC (u : Fin 32) : Finset S65536x512.Idx := (Rect.unit (s := S65536x512) ![2048 * u.val, 0] S2048x512.size (inb_pieceC u)).set
/-- The elements of block `u` of the marks result. -/
abbrev setPD (u : Fin 32) : Finset S4096x16x512.Idx := (Rect.unit (s := S4096x16x512) ![128 * u.val, 0, 0] S128x16x512.size (inb_pieceD u)).set

/-- A half of the weights buffer covers exactly its elements. -/
theorem tileC_set (g : Fin 2) : (tileC g).view.set = setTC g := by
  simp only [tileC, Memref.view_squeeze, View.set_reshape]; exact View.set_slice_whole _ _
/-- A half of the marks buffer covers exactly its elements. -/
theorem tileD_set (g : Fin 2) : (tileD g).view.set = setTD g := by
  simp only [tileD, Memref.view_squeeze, View.set_reshape]; exact View.set_slice_whole _ _
/-- A block of the weights result covers exactly its elements. -/
theorem pieceC_set (u : Fin 32) : (pieceC u).view.set = setPC u := View.set_slice_whole _ _
/-- A block of the marks result covers exactly its elements. -/
theorem pieceD_set (u : Fin 32) : (pieceD u).view.set = setPD u := View.set_slice_whole _ _

/-- Two halves of the weights buffer share no element. -/
theorem setTC_disjoint (i i' : Fin 2) (h : i ≠ i') : Disjoint (setTC i) (setTC i') :=
  Ring.boxes_disjoint (s := S2x2048x512) S1x2048x512.size (fun i : Fin 2 => ![i.val, 0, 0]) inb_tileC (fun i => ![i.val, 0, 0])
    (fun i a => by fin_cases a <;> simp) (fun v => Fin.ofNat 2 (v 0)) (by decide +kernel) i i' h
/-- Two halves of the marks buffer share no element. -/
theorem setTD_disjoint (i i' : Fin 2) (h : i ≠ i') : Disjoint (setTD i) (setTD i') :=
  Ring.boxes_disjoint (s := S2x128x16x512) S1x128x16x512.size (fun i : Fin 2 => ![i.val, 0, 0, 0]) inb_tileD (fun i => ![i.val, 0, 0, 0])
    (fun i a => by fin_cases a <;> simp) (fun v => Fin.ofNat 2 (v 0)) (by decide +kernel) i i' h
/-- Two blocks of the weights result share no element. -/
theorem setPC_disjoint (i i' : Fin 32) (h : i ≠ i') : Disjoint (setPC i) (setPC i') :=
  Ring.boxes_disjoint (s := S65536x512) S2048x512.size (fun i : Fin 32 => ![2048 * i.val, 0]) inb_pieceC (fun i => ![i.val, 0])
    (fun i a => by fin_cases a <;> simp <;> omega) (fun v => Fin.ofNat 32 (v 0)) (by decide +kernel) i i' h
/-- Two blocks of the marks result share no element. -/
theorem setPD_disjoint (i i' : Fin 32) (h : i ≠ i') : Disjoint (setPD i) (setPD i') :=
  Ring.boxes_disjoint (s := S4096x16x512) S128x16x512.size (fun i : Fin 32 => ![128 * i.val, 0, 0]) inb_pieceD (fun i => ![i.val, 0, 0])
    (fun i a => by fin_cases a <;> simp <;> omega) (fun v => Fin.ofNat 32 (v 0)) (by decide +kernel) i i' h

/-- The blocks of each result are all of it. -/
theorem setPC_cover : Finset.univ.biUnion setPC = Finset.univ :=
  (Ring.boxes_cover_box (s := S65536x512) 0 2048 (fun i : Fin 32 => ![2048 * i.val, 0]) S2048x512.size inb_pieceC ![0, 0] S65536x512.size (by intro a; fin_cases a <;> simp)
    (fun b => by simp) (fun b a ha => by fin_cases a <;> simp at ha ⊢) rfl (fun a ha => by fin_cases a <;> simp at ha ⊢) rfl).trans
    (by ext i; simp only [Rect.mem_set_unit, Finset.mem_univ, iff_true]; intro a; have := (i a).isLt; fin_cases a <;> simp at this ⊢ <;> omega)
/-- The blocks of marks are all of the marks result. -/
theorem setPD_cover : Finset.univ.biUnion setPD = Finset.univ :=
  (Ring.boxes_cover_box (s := S4096x16x512) 0 128 (fun i : Fin 32 => ![128 * i.val, 0, 0]) S128x16x512.size inb_pieceD ![0, 0, 0] S4096x16x512.size (by intro a; fin_cases a <;> simp)
    (fun b => by simp) (fun b a ha => by fin_cases a <;> simp at ha ⊢) rfl (fun a ha => by fin_cases a <;> simp at ha ⊢) rfl).trans
    (by ext i; simp only [Rect.mem_set_unit, Finset.mem_univ, iff_true]; intro a; have := (i a).isLt; fin_cases a <;> simp at this ⊢ <;> omega)

/-! ## The arrays whose blocks are given -/

/-- The array of weights, respectively of marks, whose block `u` is `EC u`, respectively `ED u`. -/
def fullC (EC : Fin 32 → Vec F S2048x512 .f32) : Vec F S65536x512 .f32 := fun i =>
  EC ⟨(i 0).val / 2048, by have : (i 0).val < 65536 := (i 0).isLt; omega⟩ (ix2 (n0 := 2048) (n1 := 512) ⟨(i 0).val % 2048, Nat.mod_lt _ (by decide)⟩ (i 1))
/-- The marks result put together from its blocks. -/
def fullD (ED : Fin 32 → Vec F S128x16x512 .i8) : Vec F S4096x16x512 .i8 := fun i =>
  ED ⟨(i 0).val / 128, by have : (i 0).val < 4096 := (i 0).isLt; omega⟩ (ix3 (n0 := 128) (n1 := 16) (n2 := 512) ⟨(i 0).val % 128, Nat.mod_lt _ (by decide)⟩ (i 1) (i 2))

omit [FloatOps F] in
/-- Block `u` of the weights result put together from blocks is block `u`. -/
theorem read_fullC (EC : Fin 32 → Vec F S2048x512 .f32) (u : Fin 32) : (pieceC u).view.read (Elt F) (fullC EC) = EC u := by
  funext y
  show fullC EC ((Rect.unit (s := S65536x512) ![2048 * u.val, 0] S2048x512.size (inb_pieceC u)).emb y) = _
  have h0 : (((Rect.unit (s := S65536x512) ![2048 * u.val, 0] S2048x512.size (inb_pieceC u)).emb y) 0).val = 2048 * u.val + (y 0).val := by simp
  have h1 : (((Rect.unit (s := S65536x512) ![2048 * u.val, 0] S2048x512.size (inb_pieceC u)).emb y) 1).val = (y 1).val := by simp
  have hy : (y 0).val < 2048 := (y 0).isLt
  unfold fullC
  refine congr (congrArg EC (Fin.ext ?_)) (funext fun a => ?_)
  · show _ / 2048 = u.val
    rw [h0]; omega
  · match a with
    | ⟨0, _⟩ => exact Fin.ext (by show _ % 2048 = (y 0).val; rw [h0]; omega)
    | ⟨1, _⟩ => exact Fin.ext h1
omit [FloatOps F] in
/-- Block `u` of the marks result put together from blocks is block `u`. -/
theorem read_fullD (ED : Fin 32 → Vec F S128x16x512 .i8) (u : Fin 32) : (pieceD u).view.read (Elt F) (fullD ED) = ED u := by
  funext y
  show fullD ED ((Rect.unit (s := S4096x16x512) ![128 * u.val, 0, 0] S128x16x512.size (inb_pieceD u)).emb y) = _
  have h0 : (((Rect.unit (s := S4096x16x512) ![128 * u.val, 0, 0] S128x16x512.size (inb_pieceD u)).emb y) 0).val = 128 * u.val + (y 0).val := by simp
  have h1 : (((Rect.unit (s := S4096x16x512) ![128 * u.val, 0, 0] S128x16x512.size (inb_pieceD u)).emb y) 1).val = (y 1).val := by simp
  have h2 : (((Rect.unit (s := S4096x16x512) ![128 * u.val, 0, 0] S128x16x512.size (inb_pieceD u)).emb y) 2).val = (y 2).val := by simp
  have hy : (y 0).val < 128 := (y 0).isLt
  unfold fullD
  refine congr (congrArg ED (Fin.ext ?_)) (funext fun a => ?_)
  · show _ / 128 = u.val
    rw [h0]; omega
  · match a with
    | ⟨0, _⟩ => exact Fin.ext (by show _ % 128 = (y 0).val; rw [h0]; omega)
    | ⟨1, _⟩ => exact Fin.ext h1
    | ⟨2, _⟩ => exact Fin.ext h2

/-- Contents read alike through a view agree on its elements. -/
theorem agree_of_read {κ : Kind} {sp : Space} {s : Shape} {e : EltTy} (v : View sig κ sp s e) {f g : v.ty.Contents (Elt F)}
    (h : v.read (Elt F) f = v.read (Elt F) g) : ∀ i ∈ v.set, f i = g i := fun i hi => by
  obtain ⟨x, -, rfl⟩ := Finset.mem_map.mp hi
  have hx := congrFun h x
  rw [View.read_apply, View.read_apply] at hx
  exact (cast_inj _).mp hx

end Cert.KernelIdeal.Expand

end
-- ==== Proof.ExpandShare.lean ====
module

public import proofs.«01_k».proof.Proof.ExpandParts
public import Idealize.ShloMosaic.Lib.ValueIdx
public import Idealize.ShloMosaic.Lib.Claim

@[expose] public section

set_option maxRecDepth 16384

noncomputable section

namespace Cert.KernelIdeal.Expand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ (Pipeline.UD sig nD τ) ℕ

/-! ## Into the ring and out of it -/

/-- Buffer `r` held, at some contents. -/
abbrev anyAt (c : Dev nD) (r : Ref sig .tc) : sProp 𝕄 := iprop(∃ f : Buf (Elt F) ((c : Thread nD τ).loc r), ((c : Thread nD τ).loc r) ↦{fullShare} f)

/-- What of a double buffer no half is (nothing, but nobody asks). -/
abbrev spareC (c : Dev nD) : sProp 𝕄 := iprop(∃ f : Buf (Elt F) ((c : Thread nD τ).loc cc1_scratch0), ((c : Thread nD τ).loc cc1_scratch0) ↦[Finset.univ \ Finset.univ.biUnion setTC]{fullShare} f)
/-- What the halves leave of the marks buffer. -/
abbrev spareD (c : Dev nD) : sProp 𝕄 := iprop(∃ f : Buf (Elt F) ((c : Thread nD τ).loc cc1_scratch1), ((c : Thread nD τ).loc cc1_scratch1) ↦[Finset.univ \ Finset.univ.biUnion setTD]{fullShare} f)

/-- A half of the weights buffer held is its elements held. -/
theorem tileCP_eq (c : Dev nD) (g : Fin 2) (e) : tileCP (F := F) c g e = (((c : Thread nD τ).loc cc1_scratch0) ↦[setTC g]{fullShare} e : sProp 𝕄) := by
  unfold tileCP; rw [tileC_set]; rfl
/-- A half of the marks buffer held is its elements held. -/
theorem tileDP_eq (c : Dev nD) (g : Fin 2) (e) : tileDP (F := F) c g e = (((c : Thread nD τ).loc cc1_scratch1) ↦[setTD g]{fullShare} e : sProp 𝕄) := by
  unfold tileDP; rw [tileD_set]; rfl
/-- A block of the weights result held is its elements held. -/
theorem pieceCP_eq (c : Dev nD) (u : Fin 32) (f) : pieceCP (F := F) c u f = (((c : Thread nD τ).loc main_call0_v2_0) ↦[setPC u]{fullShare} f : sProp 𝕄) := by
  unfold pieceCP; rw [pieceC_set]; rfl
/-- A block of the marks result held is its elements held. -/
theorem pieceDP_eq (c : Dev nD) (u : Fin 32) (f) : pieceDP (F := F) c u f = (((c : Thread nD τ).loc main_call0_v2_1) ↦[setPD u]{fullShare} f : sProp 𝕄) := by
  unfold pieceDP; rw [pieceD_set]; rfl

/-- The weights buffer splits into its halves and the rest. -/
theorem tilesC_in (c : Dev nD) : anyAt c cc1_scratch0 ⊢ (iprop(bigSep Finset.univ (fun g : Fin 2 => iprop(∃ e, tileCP (F := F) c g e)) ∗ spareC c) : sProp 𝕄) :=
  Ring.pieces_split_spare (U := Pipeline.UD sig nD τ) (ℓ := (c : Thread nD τ).loc cc1_scratch0) (q := fullShare) setTC setTC_disjoint (fun g e => tileCP c g e) (fun g e => tileCP_eq c g e)
/-- The marks buffer splits into its halves and the rest. -/
theorem tilesD_in (c : Dev nD) : anyAt c cc1_scratch1 ⊢ (iprop(bigSep Finset.univ (fun g : Fin 2 => iprop(∃ e, tileDP (F := F) c g e)) ∗ spareD c) : sProp 𝕄) :=
  Ring.pieces_split_spare (U := Pipeline.UD sig nD τ) (ℓ := (c : Thread nD τ).loc cc1_scratch1) (q := fullShare) setTD setTD_disjoint (fun g e => tileDP c g e) (fun g e => tileDP_eq c g e)
/-- The halves and the rest make the weights buffer again. -/
theorem tilesC_out (c : Dev nD) : (iprop(bigSep Finset.univ (fun g : Fin 2 => iprop(∃ e, tileCP (F := F) c g e)) ∗ spareC c) : sProp 𝕄) ⊢ anyAt c cc1_scratch0 :=
  Ring.pieces_join_spare (U := Pipeline.UD sig nD τ) (ℓ := (c : Thread nD τ).loc cc1_scratch0) (q := fullShare) setTC setTC_disjoint (fun g e => tileCP c g e) (fun g e => tileCP_eq c g e)
/-- The halves and the rest make the marks buffer again. -/
theorem tilesD_out (c : Dev nD) : (iprop(bigSep Finset.univ (fun g : Fin 2 => iprop(∃ e, tileDP (F := F) c g e)) ∗ spareD c) : sProp 𝕄) ⊢ anyAt c cc1_scratch1 :=
  Ring.pieces_join_spare (U := Pipeline.UD sig nD τ) (ℓ := (c : Thread nD τ).loc cc1_scratch1) (q := fullShare) setTD setTD_disjoint (fun g e => tileDP c g e) (fun g e => tileDP_eq c g e)
/-- The weights result splits into its blocks. -/
theorem piecesC_in (c : Dev nD) : anyAt c main_call0_v2_0 ⊢ (bigSep Finset.univ (fun u : Fin 32 => iprop(∃ f, pieceCP (F := F) c u f)) : sProp 𝕄) :=
  Ring.pieces_split (U := Pipeline.UD sig nD τ) (ℓ := (c : Thread nD τ).loc main_call0_v2_0) (q := fullShare) setPC setPC_disjoint setPC_cover (fun u f => pieceCP c u f) (fun u f => pieceCP_eq c u f)
/-- The marks result splits into its blocks. -/
theorem piecesD_in (c : Dev nD) : anyAt c main_call0_v2_1 ⊢ (bigSep Finset.univ (fun u : Fin 32 => iprop(∃ f, pieceDP (F := F) c u f)) : sProp 𝕄) :=
  Ring.pieces_split (U := Pipeline.UD sig nD τ) (ℓ := (c : Thread nD τ).loc main_call0_v2_1) (q := fullShare) setPD setPD_disjoint setPD_cover (fun u f => pieceDP c u f) (fun u f => pieceDP_eq c u f)

/-- All blocks home with the values `EC` are the array `fullC EC`. -/
theorem piecesC_out (c : Dev nD) (EC : Fin 32 → Vec F S2048x512 .f32) :
    (bigSep Finset.univ (fun u : Fin 32 => doneC (F := F) c u (EC u)) : sProp 𝕄) ⊢ (((c : Thread nD τ).loc main_call0_v2_0) ↦{fullShare} (fullC EC : Buf (Elt F) ((c : Thread nD τ).loc main_call0_v2_0)) : sProp 𝕄) := by
  refine BI.Entails.trans (BI.bigSep_mono (Ψ := fun u => pieceCP (F := F) c u (fullC EC)) fun u _ => ?_)
    (Entails.of_eq ((BI.bigSep_congr fun u _ => pieceCP_eq c u _).trans
      (Ring.pointsTo_blocks (Ix := Unit) (Name := ℕ) (Lvl := ℕ) (U := Pipeline.UD sig nD τ) (ℓ := (c : Thread nD τ).loc main_call0_v2_0) (q := fullShare) setPC setPC_disjoint setPC_cover (fullC EC : Buf (Elt F) ((c : Thread nD τ).loc main_call0_v2_0))).symm))
  show iprop(∃ f, ⌜(pieceC u).view.read (Elt F) f = EC u⌝ ∗ pieceCP (F := F) c u f) ⊢ (pieceCP (F := F) c u (fullC EC) : sProp 𝕄)
  iintro ⟨%f, %hf, H⟩
  iapply (Entails.of_eq (pointsTo_congr (agree_of_read (pieceC u).view (hf.trans (read_fullC EC u).symm))))
  iexact H
/-- The written blocks of marks make the marks result put together from them. -/
theorem piecesD_out (c : Dev nD) (ED : Fin 32 → Vec F S128x16x512 .i8) :
    (bigSep Finset.univ (fun u : Fin 32 => doneD (F := F) c u (ED u)) : sProp 𝕄) ⊢ (((c : Thread nD τ).loc main_call0_v2_1) ↦{fullShare} (fullD ED : Buf (Elt F) ((c : Thread nD τ).loc main_call0_v2_1)) : sProp 𝕄) := by
  refine BI.Entails.trans (BI.bigSep_mono (Ψ := fun u => pieceDP (F := F) c u (fullD ED)) fun u _ => ?_)
    (Entails.of_eq ((BI.bigSep_congr fun u _ => pieceDP_eq c u _).trans
      (Ring.pointsTo_blocks (Ix := Unit) (Name := ℕ) (Lvl := ℕ) (U := Pipeline.UD sig nD τ) (ℓ := (c : Thread nD τ).loc main_call0_v2_1) (q := fullShare) setPD setPD_disjoint setPD_cover (fullD ED : Buf (Elt F) ((c : Thread nD τ).loc main_call0_v2_1))).symm))
  show iprop(∃ f, ⌜(pieceD u).view.read (Elt F) f = ED u⌝ ∗ pieceDP (F := F) c u f) ⊢ (pieceDP (F := F) c u (fullD ED) : sProp 𝕄)
  iintro ⟨%f, %hf, H⟩
  iapply (Entails.of_eq (pointsTo_congr (agree_of_read (pieceD u).view (hf.trans (read_fullD ED u).symm))))
  iexact H

/-- The call's own four cells. -/
def osem1 : Fin 4 → SemLoc sig := ![SemLoc.dma 8, SemLoc.dma 9, SemLoc.dma 10, SemLoc.dma 11]
/-- The four counters belong to the second call alone. -/
theorem ownSemFacts1 : Pipeline.OwnSemFacts spec1 osem1 := by decide
/-- The second call's own counters, one by one. -/
theorem ownSems1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem1 [0, 1, 2, 3] (by decide) (by decide)]; rfl
/-- The weights' counters, one by one. -/
theorem cellsC_eq (c : Dev nD) : (bigSep Finset.univ (fun g : Fin 2 => cellCP (F := F) c g) : sProp 𝕄) = iprop(semVal ((c : Thread nD τ), SemLoc.dma 8) 0 ∗ semVal ((c : Thread nD τ), SemLoc.dma 9) 0) := by
  unfold cellCP; rw [Ring.bigSep_fin2, semC_0, semC_1]
/-- The marks' counters, one by one. -/
theorem cellsD_eq (c : Dev nD) : (bigSep Finset.univ (fun g : Fin 2 => cellDP (F := F) c g) : sProp 𝕄) = iprop(semVal ((c : Thread nD τ), SemLoc.dma 10) 0 ∗ semVal ((c : Thread nD τ), SemLoc.dma 11) 0) := by
  unfold cellDP; rw [Ring.bigSep_fin2, semD_0, semD_1]
/-- All free halves, part by part. -/
theorem frees_eq (c : Dev nD) : (bigSep Finset.univ (freeR (F := F) c) : sProp 𝕄)
    = iprop((bigSep Finset.univ (fun g : Fin 2 => cellCP (F := F) c g) ∗ bigSep Finset.univ (fun g : Fin 2 => iprop(∃ e, tileCP (F := F) c g e)))
        ∗ (bigSep Finset.univ (fun g : Fin 2 => cellDP (F := F) c g) ∗ bigSep Finset.univ (fun g : Fin 2 => iprop(∃ e, tileDP (F := F) c g e)))) := by
  unfold freeR; rw [BI.bigSep_sep', BI.bigSep_sep', BI.bigSep_sep']

variable (c : Dev nD) (EC : Fin 32 → Vec F S2048x512 .f32) (ED : Fin 32 → Vec F S128x16x512 .i8)

/-- The double buffers, the cells at zero and both result arrays, whole, are the ring before the first step. -/
theorem ring_in : iprop((anyAt c cc1_scratch0 ∗ anyAt c cc1_scratch1) ∗ Pipeline.ownSems0 osem1 c ∗ anyAt c main_call0_v2_0 ∗ anyAt c main_call0_v2_1)
    ⊢ (iprop(ringAt c EC ED 0 ∗ spareC c ∗ spareD c) : sProp 𝕄) := by
  unfold ringAt; rw [Ring.AtBΦ_lt _ _ _ _ _ 0 (by decide), Ring.AtB_zero]; unfold Ring.AtB₀
  rw [frees_eq, cellsC_eq, cellsD_eq, ownSems1_eq]
  unfold aheadR; rw [BI.bigSep_sep']
  iintro ⟨⟨HC, HD⟩, ⟨Hq0, Hq1, Hq2, Hq3⟩, HX, HY⟩
  ihave HC' := (tilesC_in (F := F) c) $$ HC
  icases HC' with ⟨HC, HCs⟩
  ihave HD' := (tilesD_in (F := F) c) $$ HD
  icases HD' with ⟨HD, HDs⟩
  isplitl [HX HY Hq0 Hq1 Hq2 Hq3 HC HD]
  · isplitl [HX HY]
    · isplitl [HX]
      · iapply (piecesC_in (F := F) c); iexact HX
      · iapply (piecesD_in (F := F) c); iexact HY
    isplitl [Hq0 Hq1 HC]
    · isplitl [Hq0 Hq1]
      · isplitl [Hq0] <;> iassumption
      iexact HC
    · isplitl [Hq2 Hq3]
      · isplitl [Hq2] <;> iassumption
      iexact HD
  isplitl [HCs] <;> iassumption

/-- After the last step's waits the ring is the double buffers, the cells at zero, and both result arrays written. -/
theorem ring_out : (iprop(ringAt c EC ED 32 ∗ spareC c ∗ spareD c) : sProp 𝕄)
    ⊢ iprop((anyAt c cc1_scratch0 ∗ anyAt c cc1_scratch1) ∗ Pipeline.ownSems0 osem1 c
      ∗ (((c : Thread nD τ).loc main_call0_v2_0) ↦{fullShare} (fullC EC : Buf (Elt F) ((c : Thread nD τ).loc main_call0_v2_0)))
      ∗ (((c : Thread nD τ).loc main_call0_v2_1) ↦{fullShare} (fullD ED : Buf (Elt F) ((c : Thread nD τ).loc main_call0_v2_1)))) := by
  unfold ringAt; rw [Ring.AtBΦ_ge _ _ _ _ _ 32 (by decide)]; unfold Ring.AtBEnd
  rw [frees_eq, cellsC_eq, cellsD_eq, ownSems1_eq]
  unfold behindR; rw [BI.bigSep_sep']
  iintro ⟨⟨⟨HX, HY⟩, ⟨⟨Hq0, Hq1⟩, HC⟩, ⟨⟨Hq2, Hq3⟩, HD⟩⟩, HCs, HDs⟩
  isplitl [HC HD HCs HDs]
  · isplitl [HC HCs]
    · iapply (tilesC_out (F := F) c); isplitl [HC] <;> iassumption
    · iapply (tilesD_out (F := F) c); isplitl [HD] <;> iassumption
  isplitl [Hq0 Hq1 Hq2 Hq3]
  · isplitl [Hq0]; · iexact Hq0
    isplitl [Hq1]; · iexact Hq1
    isplitl [Hq2] <;> iassumption
  isplitl [HX]
  · iapply (piecesC_out (F := F) c EC); iexact HX
  · iapply (piecesD_out (F := F) c ED); iexact HY

end Cert.KernelIdeal.Expand

end
-- ==== Proof.ExpandDat.lean ====
module

public import proofs.«01_k».proof.Proof.ExpandShare
public import Idealize.ShloMosaic.Lib.ValueIdx
public import Idealize.ShloMosaic.Lib.Claim

@[expose] public section

set_option maxRecDepth 16384

noncomputable section

namespace Cert.KernelIdeal.Expand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ (Pipeline.UD sig nD τ) ℕ

variable (Vc : (c : Dev nD) → (b : Ref sig .tc) → Buf (Elt F) ((c : Thread nD τ).loc b))

/-! ## The second call's proof data, at any entry contents -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vc c (Pipeline.arrRef spec1 w))

/-- The point that writes block `u`. -/
def ptOf (u : Fin 32) : Fin grid1.N := ⟨u.val, by rw [N_1]; exact u.isLt⟩
/-- The point that writes the block of point `t` is `t`. -/
theorem ptOf_bk (t : Fin grid1.N) : ptOf (Ring.bk 32 t.val) = t :=
  Fin.ext (Ring.bk_val (lt_of_lt_of_eq t.isLt N_1))

/-- What the call writes in block `u` of each result. -/
def EC (c : Dev nD) (u : Fin 32) : Vec F S2048x512 .f32 := blkC (iblk1 Vc c 0 (ptOf u)) (iblk1 Vc c 1 (ptOf u)) (ptOf u)
/-- The same for the marks. -/
def ED (c : Dev nD) (u : Fin 32) : Vec F S128x16x512 .i8 := blkD (iblk1 Vc c 0 (ptOf u)) (iblk1 Vc c 1 (ptOf u)) (ptOf u)
/-- The weights block of point `t` is the block numbered `t`. -/
theorem EC_bk (c : Dev nD) (t : Fin grid1.N) : blkC (iblk1 Vc c 0 t) (iblk1 Vc c 1 t) t = EC Vc c (Ring.bk 32 t.val) := by
  unfold EC; rw [ptOf_bk]
/-- The marks block of point `t` is the block numbered `t`. -/
theorem ED_bk (c : Dev nD) (t : Fin grid1.N) : blkD (iblk1 Vc c 0 t) (iblk1 Vc c 1 t) t = ED Vc c (Ring.bk 32 t.val) := by
  unfold ED; rw [ptOf_bk]

/-- The buffers of the first call, which the second leaves alone. -/
abbrev others (c : Dev nD) : sProp 𝕄 :=
  iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_scratch0 ∗ anyAt c cc0_scratch1 ∗ anyAt c cc0_scratch2)

/-- The invariant before point `k`. -/
def Phi1 (c : Dev nD) (k : ℕ) : sProp 𝕄 := iprop(others c ∗ (∃ r, prngReg c r) ∗ ringAt c (EC Vc c) (ED Vc c) k ∗ spareC c ∗ spareD c)

/-- The proof data: the arrays as entered, the blocks left as read, the ring as invariant. -/
def dat1 (c : Dev nD) : Dat τ (Elt F) Unit ℕ (Pipeline.UD sig nD τ) ℕ cfg1 c where
  A w := Vc c (Pipeline.arrRef spec1 w)
  after w t := match w with
    | ⟨0, _⟩ => iblk1 Vc c 0 t
    | ⟨1, _⟩ => iblk1 Vc c 1 t
  Φ t := Phi1 Vc c t.val
  q _ := fullShare
  owed _ := 0

/-- The arrays of the proof data are the arrays as the call finds them. -/
theorem A1_eq (c : Dev nD) (w : Fin cfg1.W) : (dat1 Vc c).A w = Vc c (Pipeline.arrRef spec1 w) := by
  dsimp only [dat1]
/-- Before point `t` the invariant is the one numbered `t`. -/
theorem Phi1_castSucc (c : Dev nD) (t : Fin cfg1.N) : (dat1 Vc c).Φ t.castSucc = Phi1 Vc c t.val := by
  dsimp only [dat1]; simp only [Fin.coe_castSucc]
/-- After point `t` the invariant is the next one. -/
theorem Phi1_succ (c : Dev nD) (t : Fin cfg1.N) : (dat1 Vc c).Φ t.succ = Phi1 Vc c (t.val + 1) := by
  dsimp only [dat1]; simp only [Fin.val_succ]
/-- The first window is left as it was read. -/
theorem after1_0 (c : Dev nD) (t : Fin cfg1.N) : (dat1 Vc c).after 0 t = iblk1 Vc c 0 t := by dsimp only [dat1]
/-- The second window is left as it was read. -/
theorem after1_1 (c : Dev nD) (t : Fin cfg1.N) : (dat1 Vc c).after 1 t = iblk1 Vc c 1 t := by dsimp only [dat1]
/-- The body finds the block of the first window in its buffer. -/
theorem before1_0 (c : Dev nD) (t : Fin cfg1.N) (d) : (dat1 Vc c).before 0 t d = iblk1 Vc c 0 t :=
  ((dat1 Vc c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- The body finds the block of the second window in its buffer. -/
theorem before1_1 (c : Dev nD) (t : Fin cfg1.N) (d) : (dat1 Vc c).before 1 t d = iblk1 Vc c 1 t :=
  ((dat1 Vc c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

/-! ## The body obligation -/

/-- What the body is called with at point `t`, and what it returns. -/
def bodyPre1 (c : Dev nD) (t : Fin cfg1.N) : sProp 𝕄 :=
  iprop((dat1 Vc c).Φ t.castSucc ∗ (dat1 Vc c).owesAt () t.castSucc
    ∗ (∃ d, owns (c : Thread nD τ) (st1_0 t) fullShare ((dat1 Vc c).before 0 t d))
    ∗ (∃ d, owns (c : Thread nD τ) (st1_1 t) fullShare ((dat1 Vc c).before 1 t d)))
/-- What the body returns at point `t`. -/
def bodyPost1 (c : Dev nD) (t : Fin cfg1.N) : sProp 𝕄 :=
  iprop((dat1 Vc c).Φ t.succ ∗ (dat1 Vc c).owesAt () t.succ
    ∗ owns (c : Thread nD τ) (st1_0 t) fullShare ((dat1 Vc c).after 0 t)
    ∗ owns (c : Thread nD τ) (st1_1 t) fullShare ((dat1 Vc c).after 1 t))

set_option maxHeartbeats 1200000 in
/-- The body at any point, by the point's place: the first two steps, the later even and odd ones, the last. -/
theorem sound_body1 (c : Dev nD) (t : Fin cfg1.N) :
    bodyPre1 Vc c t ⊢ wp frame (wpE (defs₀ (F := F)) Variants.none c none) Set.univ (bodyAt1 t) (fun _ => bodyPost1 Vc c t) := by
  unfold bodyPre1 bodyPost1 bodyAt1
  simp only [before1_0, before1_1]
  rw [after1_0, after1_1, Phi1_castSucc Vc c t, Phi1_succ Vc c t]
  unfold Dat.owesAt Pipeline.owesWithin
  rw [show (dat1 Vc c).owed t.castSucc = 0 from rfl, show (dat1 Vc c).owed t.succ = 0 from rfl]
  unfold Phi1 ringAt
  have hN : t.val < 32 := lt_of_lt_of_eq t.isLt (show cfg1.N = 32 from N_1)
  rcases Nat.mod_two_eq_zero_or_one t.val with he | ho
  · have hs : Ring.sl 2 t.val = 0 := Fin.ext (by simp [Ring.sl, he])
    have hs1 : Ring.sl 2 (t.val + 1) = 1 := Fin.ext (by simp [Ring.sl]; omega)
    have h1 := (cond1_iff t).mpr he
    have h3 : ¬k1_cond3 (grid1.coords t) = 1#1 := fun h => by have := (cond3_iff t).mp h; omega
    have h5 : ¬k1_cond5 (grid1.coords t) = 1#1 := fun h => by have := (cond5_iff t).mp h; omega
    by_cases h : 2 ≤ t.val
    · have run := run_even c t (st1_0 t) (hstage1_0 ((cfg1.slots t 0).cast nbuf1_0)) (st1_1 t) (hstage1_1 ((cfg1.slots t 1).cast nbuf1_1)) h1 ((cond2_iff t).mpr h) h3 h5
        (iblk1 Vc c 0 t) (iblk1 Vc c 1 t) (EC Vc c (Ring.bk 32 (t.val - 2))) (ED Vc c (Ring.bk 32 (t.val - 2)))
      rw [EC_bk, ED_bk] at run
      rw [Ring.AtBΦ_lt _ _ _ _ _ t.val (by omega), Ring.AtB22_here _ _ _ _ t.val h (by omega), Ring.AtBΦ_lt _ _ _ _ _ (t.val + 1) (by omega), Ring.AtB22_next _ _ _ _ t.val h (by omega), hs, hs1]
      iintro ⟨⟨Ho, Hg, ⟨⟨⟨HC, HD⟩, HA⟩, HB, ⟨HFC, HFD⟩, Hcar⟩, Hsp⟩, ⟨%W, -, HW⟩, ⟨%d0, H0⟩, ⟨%d1, H1⟩⟩
      iapply (run W _)
      isplitl [H0]; · iexact H0
      isplitl [H1]; · iexact H1
      isplitl [HC]; · iexact HC
      isplitl [HD]; · iexact HD
      isplitl [HFC]; · iexact HFC
      isplitl [HFD]; · iexact HFD
      isplitl [HW]; · iexact HW
      iintro ⟨H0, H1, HdC, HdD, HFC, HFD, ⟨%W', HW'⟩⟩
      isplitl [Ho Hg HA HB Hcar Hsp HdC HdD HFC HFD]
      · isplitl [Ho]; · iexact Ho
        isplitl [Hg]; · iexact Hg
        isplitr [Hsp]
        · isplitl [HA]; · iexact HA
          isplitl [HdC HdD HB]
          · isplitl [HdC HdD]
            · isplitl [HdC] <;> iassumption
            iexact HB
          isplitl [Hcar]; · iexact Hcar
          isplitl [HFC] <;> iassumption
        iexact Hsp
      isplitl [HW']
      · iexists W'; isplitr; · ipureintro; exact fun _ _ => Or.inl trivial
        iexact HW'
      isplitl [H0] <;> iassumption
    · have h0 : t.val = 0 := by omega
      have run := run_first0 c t (st1_0 t) (hstage1_0 ((cfg1.slots t 0).cast nbuf1_0)) (st1_1 t) (hstage1_1 ((cfg1.slots t 1).cast nbuf1_1)) h1 (fun h' => h ((cond2_iff t).mp h')) h3 h5
        (iblk1 Vc c 0 t) (iblk1 Vc c 1 t)
      rw [EC_bk, ED_bk] at run
      rw [Ring.AtBΦ_lt _ _ _ _ _ t.val (by omega), Ring.AtB2_zero' 2 _ _ _ _ t.val h0, Ring.AtBΦ_lt _ _ _ _ _ (t.val + 1) (by omega), Ring.AtB22_next_zero' _ _ _ _ t.val h0, hs, hs1]
      iintro ⟨⟨Ho, Hg, ⟨⟨⟨HC, HD⟩, HA⟩, ⟨⟨HqC, HtC⟩, ⟨HqD, HtD⟩⟩, Hfx⟩, Hsp⟩, ⟨%W, -, HW⟩, ⟨%d0, H0⟩, ⟨%d1, H1⟩⟩
      iapply (run W _)
      isplitl [H0]; · iexact H0
      isplitl [H1]; · iexact H1
      isplitl [HC]; · iexact HC
      isplitl [HD]; · iexact HD
      isplitl [HqC]; · iexact HqC
      isplitl [HtC]; · iexact HtC
      isplitl [HqD]; · iexact HqD
      isplitl [HtD]; · iexact HtD
      isplitl [HW]; · iexact HW
      iintro ⟨H0, H1, HFC, HFD, ⟨%W', HW'⟩⟩
      isplitl [Ho Hg HA Hfx Hsp HFC HFD]
      · isplitl [Ho]; · iexact Ho
        isplitl [Hg]; · iexact Hg
        isplitr [Hsp]
        · isplitl [HA]; · iexact HA
          isplitl [Hfx]; · iexact Hfx
          isplitl [HFC] <;> iassumption
        iexact Hsp
      isplitl [HW']
      · iexists W'; isplitr; · ipureintro; exact fun _ _ => Or.inl trivial
        iexact HW'
      isplitl [H0] <;> iassumption
  · have hs : Ring.sl 2 t.val = 1 := Fin.ext (by simp [Ring.sl, ho])
    have hs1 : Ring.sl 2 (t.val + 1) = 0 := Fin.ext (by simp [Ring.sl]; omega)
    have h1 : ¬k1_cond1 (grid1.coords t) = 1#1 := fun h => by have := (cond1_iff t).mp h; omega
    have h3 := (cond3_iff t).mpr ho
    by_cases h : 2 ≤ t.val
    · by_cases hl : t.val = 31
      · have run := run_last c t (st1_0 t) (hstage1_0 ((cfg1.slots t 0).cast nbuf1_0)) (st1_1 t) (hstage1_1 ((cfg1.slots t 1).cast nbuf1_1)) h1 h3 ((cond4_iff t).mpr h) ((cond5_iff t).mpr hl)
          (iblk1 Vc c 0 t) (iblk1 Vc c 1 t) (EC Vc c (Ring.bk 32 (t.val - 2))) (ED Vc c (Ring.bk 32 (t.val - 2))) (EC Vc c (Ring.bk 32 (t.val - 1))) (ED Vc c (Ring.bk 32 (t.val - 1)))
        rw [EC_bk, ED_bk] at run
        rw [Ring.AtBΦ_lt _ _ _ _ _ t.val (by omega), Ring.AtB22_here_last _ _ _ _ t.val h (by omega), Ring.AtBΦ_end _ _ _ _ _ (t.val + 1) (by omega), Ring.AtB22_drained _ _ t.val h (by omega), hs, hs1]
        iintro ⟨⟨Ho, Hg, ⟨⟨HC, HD⟩, HB, ⟨HFC, HFD⟩, ⟨HGC, HGD⟩⟩, Hsp⟩, ⟨%W, -, HW⟩, ⟨%d0, H0⟩, ⟨%d1, H1⟩⟩
        iapply (run W _)
        isplitl [H0]; · iexact H0
        isplitl [H1]; · iexact H1
        isplitl [HC]; · iexact HC
        isplitl [HD]; · iexact HD
        isplitl [HFC]; · iexact HFC
        isplitl [HFD]; · iexact HFD
        isplitl [HGC]; · iexact HGC
        isplitl [HGD]; · iexact HGD
        isplitl [HW]; · iexact HW
        iintro ⟨H0, H1, HaC, HaD, HbC, HbD, HcC, HcD, HfC, HfD, HgC, HgD, ⟨%W', HW'⟩⟩
        isplitl [Ho Hg HB Hsp HaC HaD HbC HbD HcC HcD HfC HfD HgC HgD]
        · isplitl [Ho]; · iexact Ho
          isplitl [Hg]; · iexact Hg
          isplitr [Hsp]
          · isplitl [HB HaC HaD HbC HbD HcC HcD]
            · isplitl [HcC HcD]
              · isplitl [HcC] <;> iassumption
              isplitl [HaC HaD]
              · isplitl [HaC] <;> iassumption
              isplitl [HbC HbD]
              · isplitl [HbC] <;> iassumption
              iexact HB
            isplitl [HgC HgD]
            · isplitl [HgC] <;> iassumption
            isplitl [HfC] <;> iassumption
          iexact Hsp
        isplitl [HW']
        · iexists W'; isplitr; · ipureintro; exact fun _ _ => Or.inl trivial
          iexact HW'
        isplitl [H0] <;> iassumption
      · have run := run_odd c t (st1_0 t) (hstage1_0 ((cfg1.slots t 0).cast nbuf1_0)) (st1_1 t) (hstage1_1 ((cfg1.slots t 1).cast nbuf1_1)) h1 h3 ((cond4_iff t).mpr h) (fun h' => hl ((cond5_iff t).mp h'))
          (iblk1 Vc c 0 t) (iblk1 Vc c 1 t) (EC Vc c (Ring.bk 32 (t.val - 2))) (ED Vc c (Ring.bk 32 (t.val - 2)))
        rw [EC_bk, ED_bk] at run
        rw [Ring.AtBΦ_lt _ _ _ _ _ t.val (by omega), Ring.AtB22_here _ _ _ _ t.val h (by omega), Ring.AtBΦ_lt _ _ _ _ _ (t.val + 1) (by omega), Ring.AtB22_next _ _ _ _ t.val h (by omega), hs, hs1]
        iintro ⟨⟨Ho, Hg, ⟨⟨⟨HC, HD⟩, HA⟩, HB, ⟨HFC, HFD⟩, Hcar⟩, Hsp⟩, ⟨%W, -, HW⟩, ⟨%d0, H0⟩, ⟨%d1, H1⟩⟩
        iapply (run W _)
        isplitl [H0]; · iexact H0
        isplitl [H1]; · iexact H1
        isplitl [HC]; · iexact HC
        isplitl [HD]; · iexact HD
        isplitl [HFC]; · iexact HFC
        isplitl [HFD]; · iexact HFD
        isplitl [HW]; · iexact HW
        iintro ⟨H0, H1, HdC, HdD, HFC, HFD, ⟨%W', HW'⟩⟩
        isplitl [Ho Hg HA HB Hcar Hsp HdC HdD HFC HFD]
        · isplitl [Ho]; · iexact Ho
          isplitl [Hg]; · iexact Hg
          isplitr [Hsp]
          · isplitl [HA]; · iexact HA
            isplitl [HdC HdD HB]
            · isplitl [HdC HdD]
              · isplitl [HdC] <;> iassumption
              iexact HB
            isplitl [Hcar]; · iexact Hcar
            isplitl [HFC] <;> iassumption
          iexact Hsp
        isplitl [HW']
        · iexists W'; isplitr; · ipureintro; exact fun _ _ => Or.inl trivial
          iexact HW'
        isplitl [H0] <;> iassumption
    · have h0 : t.val = 1 := by omega
      have run := run_first1 c t (st1_0 t) (hstage1_0 ((cfg1.slots t 0).cast nbuf1_0)) (st1_1 t) (hstage1_1 ((cfg1.slots t 1).cast nbuf1_1)) h1 h3 (fun h' => h ((cond4_iff t).mp h')) (fun h' => by have := (cond5_iff t).mp h'; omega)
        (iblk1 Vc c 0 t) (iblk1 Vc c 1 t)
      rw [EC_bk, ED_bk] at run
      rw [Ring.AtBΦ_lt _ _ _ _ _ t.val (by omega), Ring.AtB22_one' _ _ _ _ t.val h0 (by decide), Ring.AtBΦ_lt _ _ _ _ _ (t.val + 1) (by omega), Ring.AtB22_next_one' _ _ _ _ t.val h0, hs, hs1]
      iintro ⟨⟨Ho, Hg, ⟨⟨⟨HC, HD⟩, HA⟩, ⟨⟨HqC, HtC⟩, ⟨HqD, HtD⟩⟩, Hcar⟩, Hsp⟩, ⟨%W, -, HW⟩, ⟨%d0, H0⟩, ⟨%d1, H1⟩⟩
      iapply (run W _)
      isplitl [H0]; · iexact H0
      isplitl [H1]; · iexact H1
      isplitl [HC]; · iexact HC
      isplitl [HD]; · iexact HD
      isplitl [HqC]; · iexact HqC
      isplitl [HtC]; · iexact HtC
      isplitl [HqD]; · iexact HqD
      isplitl [HtD]; · iexact HtD
      isplitl [HW]; · iexact HW
      iintro ⟨H0, H1, HFC, HFD, ⟨%W', HW'⟩⟩
      isplitl [Ho Hg HA Hcar Hsp HFC HFD]
      · isplitl [Ho]; · iexact Ho
        isplitl [Hg]; · iexact Hg
        isplitr [Hsp]
        · isplitl [HA]; · iexact HA
          isplitl [Hcar]; · iexact Hcar
          isplitl [HFC] <;> iassumption
        iexact Hsp
      isplitl [HW']
      · iexists W'; isplitr; · ipureintro; exact fun _ _ => Or.inl trivial
        iexact HW'
      isplitl [H0] <;> iassumption

/-- The called body is the second call's body at that point. -/
theorem defs₀_row1 (t : Fin cfg1.N) : defs₀ (F := F) .tc cfg1.body (cfg1.bodyArgs t (cfg1.slots t)) = bodyAt1 t := by
  unfold defs₀; rw [Defs.onTc_tc]

/-- The body obligation of the second call, at every point. -/
theorem body_obligation1 (c : Dev nD) : BodyObligation (dat1 (F := F) Vc c) (defs₀ (F := F)) Variants.none () Set.univ := fun t => by
  rw [bigSep_W1, bigSep_W1, defs₀_row1]
  exact triple_restated (sound_body1 Vc c t) rfl .rfl fun _ => .rfl

/-- What the launch hands the call is the invariant before the first point; -/
theorem hin1 (c : Dev nD) : iprop(Pipeline.scopedRest (Ix := Unit) (Name := ℕ) (U := Pipeline.UD sig nD τ) (Lvl := ℕ) (Val := Elt F) spec1 c ∗ (∃ r, prngReg c r) ∗ Pipeline.ownSems0 osem1 c
    ∗ anyAt c main_call0_v2_0 ∗ anyAt c main_call0_v2_1) ⊢ ((dat1 Vc c).Φ 0 : sProp 𝕄) := by
  rw [scopedRest1_eq, show (dat1 Vc c).Φ 0 = Phi1 Vc c 0 from rfl]
  unfold Phi1
  iintro ⟨⟨Ha, Hb, Hc, Hd, He, Hf, Hh, Hi, Hj, HC, HD⟩, Hg, Hq, HX, HY⟩
  isplitl [Ha Hb Hc Hd He Hf Hh Hi Hj]
  · isplitl [Ha]; · iexact Ha
    isplitl [Hb]; · iexact Hb
    isplitl [Hc]; · iexact Hc
    isplitl [Hd]; · iexact Hd
    isplitl [He]; · iexact He
    isplitl [Hf]; · iexact Hf
    isplitl [Hh]; · iexact Hh
    isplitl [Hi] <;> iassumption
  isplitl [Hg]; · iexact Hg
  iapply (ring_in c (EC Vc c) (ED Vc c))
  isplitl [HC HD]
  · isplitl [HC] <;> iassumption
  isplitl [Hq]; · iexact Hq
  isplitl [HX] <;> iassumption

/-- and the invariant after the last point hands back the results written. -/
theorem hout1 (c : Dev nD) : ((dat1 Vc c).Φ (Fin.last cfg1.N) : sProp 𝕄)
    ⊢ iprop(Pipeline.scopedRest (Ix := Unit) (Name := ℕ) (U := Pipeline.UD sig nD τ) (Lvl := ℕ) (Val := Elt F) spec1 c ∗ (∃ r, prngReg c r) ∗ Pipeline.ownSems0 osem1 c
    ∗ (((c : Thread nD τ).loc main_call0_v2_0) ↦{fullShare} (fullC (EC Vc c) : Buf (Elt F) ((c : Thread nD τ).loc main_call0_v2_0)))
    ∗ (((c : Thread nD τ).loc main_call0_v2_1) ↦{fullShare} (fullD (ED Vc c) : Buf (Elt F) ((c : Thread nD τ).loc main_call0_v2_1)))) := by
  rw [scopedRest1_eq, show (dat1 Vc c).Φ (Fin.last cfg1.N) = Phi1 Vc c grid1.N from rfl, show grid1.N = 32 from N_1]
  unfold Phi1
  iintro ⟨⟨Ha, Hb, Hc, Hd, He, Hf, Hh, Hi, Hj⟩, Hg, HR⟩
  ihave HR' := (ring_out c (EC Vc c) (ED Vc c)) $$ HR
  icases HR' with ⟨⟨HC, HD⟩, Hq, HX, HY⟩
  isplitl [Ha Hb Hc Hd He Hf Hh Hi Hj HC HD]
  · isplitl [Ha]; · iexact Ha
    isplitl [Hb]; · iexact Hb
    isplitl [Hc]; · iexact Hc
    isplitl [Hd]; · iexact Hd
    isplitl [He]; · iexact He
    isplitl [Hf]; · iexact Hf
    isplitl [Hh]; · iexact Hh
    isplitl [Hi]; · iexact Hi
    isplitl [Hj]; · iexact Hj
    isplitl [HC] <;> iassumption
  isplitl [Hg]; · iexact Hg
  isplitl [Hq]; · iexact Hq
  isplitl [HX] <;> iassumption

end Cert.KernelIdeal.Expand

end
-- ==== Proof.RoutingRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Routing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## What one step computes -/

/-- The three running rows: tokens counted per first choice, per second choice, and the sums of the gates. -/
abbrev Sums (F : FTy → Type) [FloatOps F] := Vec F S1x16 .f32 × Vec F S1x16 .f32 × Vec F S1x16 .f32
/-- The rows the first step starts with. -/
def sums0 : Sums F := (k0_pay3, k0_pay4, k0_pay5)
/-- The rows after a step, from its rows of tokens `x`, the weights `w` and the rows before. -/
def next (x : Vec F S512x4096 .f32) (w : Vec F S4096x16 .f32) (s : Sums F) : Sums F :=
  (k0_pay13 (k0_pay10 x w) s.1, k0_pay14 (k0_pay11 x w) s.2.1, k0_pay1 (k0_pay8 x w) s.2.2)
/-- The block of per-token data a step writes. -/
def metaOf (x : Vec F S512x4096 .f32) (w : Vec F S4096x16 .f32) (s : Sums F) : Vec F S512x80 .f32 :=
  k0_pay12 (k0_pay8 x w) (k0_pay10 x w) (k0_pay11 x w) s.1 s.2.1
/-- The small result, from the rows after the step. -/
def auxOf (s : Sums F) : Vec F S1x32 .f32 := k0_pay2 s.2.2 s.1 s.1

/-- The condition of the body's only branch: it is the first point. -/
abbrev isFirst (i : grid0.Coords) : Prop := (Scalar.cmpi .ne (Scalar.extui (Scalar.cmpi .eq (BitVec.ofNat 32 (i 0).val) 0#32)) 0#32) = 1#1
/-- The first branch is taken exactly at the first step. -/
theorem isFirst_iff (t : Fin grid0.N) : isFirst (grid0.coords t) ↔ t.val = 0 := by
  have ht : t.val < 8 := lt_of_lt_of_eq t.isLt N_0
  have e0 : (grid0.coords t 0).val = t.val / 1 % 8 := Pipeline.Grid.coords_val t 0 (by decide) rfl
  simp only [isFirst, e0]
  word_cmp

/-- A whole-buffer store, read back, is what was stored; -/
theorem read_whole_store {sp : Space} {S : Shape} {e : EltTy} (v : View sig .tc sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f (⟨Rect.unit off S.size inb, w⟩ :: L)) = w := by
  subst h
  funext y
  have h := View.read_writes_cons_emb v f (Rect.whole S) w L y
  rwa [Rect.emb_whole_apply] at h
/-- The zero corner, written out. -/
theorem zero2 : (![0, 0] : Fin 2 → ℕ) = fun _ => 0 := by funext a; fin_cases a <;> rfl

set_option maxHeartbeats 1200000 in
/-- The first step, which zeroes the running rows: the body leaves its inputs, writes the block and the small result, and updates the rows. -/
theorem run_first (c : Dev nD) (i : grid0.Coords) (arg1 : Memref sig .tc .vmem S512x4096 .f32) (harg1 : arg1.IsWhole) (arg2 : Memref sig .tc .vmem S4096x16 .f32) (harg2 : arg2.IsWhole) (arg3 : Memref sig .tc .vmem S512x80 .f32) (harg3 : arg3.IsWhole) (arg4 : Memref sig .tc .vmem S1x32 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (hc : isFirst i)
    (x : Vec F S512x4096 .f32) (w : Vec F S4096x16 .f32) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare (metaOf x w sums0) ∗ owns (c : Thread nD τ) arg4 fullShare (auxOf (next x w sums0)) ∗ owns (c : Thread nD τ) arg5 fullShare (next x w sums0).1 ∗ owns (c : Thread nD τ) arg6 fullShare (next x w sums0).2.1 ∗ owns (c : Thread nD τ) arg7 fullShare (next x w sums0).2.2) -∗ K ⟨⟩))
      ⊢ wp frame (wpE (defs₀ (F := F)) Variants.none c none) Set.univ (cc0__routing_body i arg1 harg1 arg2 harg2 arg3 harg3 arg4 harg4 arg5 harg5 arg6 harg6 arg7 harg7) K := by
  simp only [cc0__routing_body_eq_skeleton]; unfold cc0__routing_body_skel
  simp only [k0_part1_eq_skeleton, k0_part2_eq_skeleton]
  unfold owns
  iintro ⟨⟨%f1, %hf1, H1⟩, ⟨%f2, %hf2, H2⟩, ⟨%d3, %f3, -, H3⟩, ⟨%d4, %f4, -, H4⟩, ⟨%e5, %f5, -, H5⟩, ⟨%e6, %f6, -, H6⟩, ⟨%e7, %f7, -, H7⟩, Hk⟩
  obtain rfl := harg1.eq_unread hf1; obtain rfl := harg2.eq_unread hf2
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    sl_unfold_run_names
    refine (read_whole_store _ (by exact zero2) _ _ _ _).trans ?_
    simp only [View.readCov_cons_toLoadRect, View.readAt_eq_ld, hf1, hf2]
    repeat rw [View.ld_unit_zero zero2]
    rfl
  isplitl [H4]
  · iexists _; isplitr; swap; · iexact H4
    ipureintro
    sl_unfold_run_names
    refine (read_whole_store _ (by exact zero2) _ _ _ _).trans ?_
    simp only [View.readCov_cons_toLoadRect, View.readAt_eq_ld, hf1, hf2]
    repeat rw [View.ld_unit_zero zero2]
    rfl
  isplitl [H5]
  · iexists _; isplitr; swap; · iexact H5
    ipureintro
    sl_unfold_run_names
    refine (read_whole_store _ (by exact zero2) _ _ _ _).trans ?_
    simp only [View.readCov_cons_toLoadRect, View.readAt_eq_ld, hf1, hf2]
    repeat rw [View.ld_unit_zero zero2]
    rfl
  isplitl [H6]
  · iexists _; isplitr; swap; · iexact H6
    ipureintro
    sl_unfold_run_names
    refine (read_whole_store _ (by exact zero2) _ _ _ _).trans ?_
    simp only [View.readCov_cons_toLoadRect, View.readAt_eq_ld, hf1, hf2]
    repeat rw [View.ld_unit_zero zero2]
    rfl
  iexists _; isplitr; swap; · iexact H7
  ipureintro
  sl_unfold_run_names
  refine (read_whole_store _ (by exact zero2) _ _ _ _).trans ?_
  simp only [View.readCov_cons_toLoadRect, View.readAt_eq_ld, hf1, hf2]
  repeat rw [View.ld_unit_zero zero2]
  rfl

set_option maxHeartbeats 1200000 in
/-- A later step, from the rows the step before left: the body leaves its inputs, writes the block and the small result, and updates the rows. -/
theorem run_later (c : Dev nD) (i : grid0.Coords) (arg1 : Memref sig .tc .vmem S512x4096 .f32) (harg1 : arg1.IsWhole) (arg2 : Memref sig .tc .vmem S4096x16 .f32) (harg2 : arg2.IsWhole) (arg3 : Memref sig .tc .vmem S512x80 .f32) (harg3 : arg3.IsWhole) (arg4 : Memref sig .tc .vmem S1x32 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (hc : ¬isFirst i)
    (x : Vec F S512x4096 .f32) (w : Vec F S4096x16 .f32) (s : Sums F) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ owns (c : Thread nD τ) arg5 fullShare s.1 ∗ owns (c : Thread nD τ) arg6 fullShare s.2.1 ∗ owns (c : Thread nD τ) arg7 fullShare s.2.2
        ∗ (iprop(owns (c : Thread nD τ) arg1 fullShare x ∗ owns (c : Thread nD τ) arg2 fullShare w ∗ owns (c : Thread nD τ) arg3 fullShare (metaOf x w s) ∗ owns (c : Thread nD τ) arg4 fullShare (auxOf (next x w s)) ∗ owns (c : Thread nD τ) arg5 fullShare (next x w s).1 ∗ owns (c : Thread nD τ) arg6 fullShare (next x w s).2.1 ∗ owns (c : Thread nD τ) arg7 fullShare (next x w s).2.2) -∗ K ⟨⟩))
      ⊢ wp frame (wpE (defs₀ (F := F)) Variants.none c none) Set.univ (cc0__routing_body i arg1 harg1 arg2 harg2 arg3 harg3 arg4 harg4 arg5 harg5 arg6 harg6 arg7 harg7) K := by
  simp only [cc0__routing_body_eq_skeleton]; unfold cc0__routing_body_skel
  simp only [k0_part1_eq_skeleton, k0_part2_eq_skeleton]
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩, Hk⟩
  obtain rfl := harg1.eq_unread hf1; obtain rfl := harg2.eq_unread hf2; obtain rfl := harg5.eq_unread hf5; obtain rfl := harg6.eq_unread hf6; obtain rfl := harg7.eq_unread hf7
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    sl_unfold_run_names
    refine (read_whole_store _ (by exact zero2) _ _ _ _).trans ?_
    simp only [View.readCov_cons_toLoadRect, View.readAt_eq_ld, hf1, hf2, hf5, hf6, hf7]
    repeat rw [View.ld_unit_zero zero2]
    rfl
  isplitl [H4]
  · iexists _; isplitr; swap; · iexact H4
    ipureintro
    sl_unfold_run_names
    refine (read_whole_store _ (by exact zero2) _ _ _ _).trans ?_
    simp only [View.readCov_cons_toLoadRect, View.readAt_eq_ld, hf1, hf2, hf5, hf6, hf7]
    repeat rw [View.ld_unit_zero zero2]
    rfl
  isplitl [H5]
  · iexists _; isplitr; swap; · iexact H5
    ipureintro
    sl_unfold_run_names
    refine (read_whole_store _ (by exact zero2) _ _ _ _).trans ?_
    simp only [View.readCov_cons_toLoadRect, View.readAt_eq_ld, hf1, hf2, hf5, hf6, hf7]
    repeat rw [View.ld_unit_zero zero2]
    rfl
  isplitl [H6]
  · iexists _; isplitr; swap; · iexact H6
    ipureintro
    sl_unfold_run_names
    refine (read_whole_store _ (by exact zero2) _ _ _ _).trans ?_
    simp only [View.readCov_cons_toLoadRect, View.readAt_eq_ld, hf1, hf2, hf5, hf6, hf7]
    repeat rw [View.ld_unit_zero zero2]
    rfl
  iexists _; isplitr; swap; · iexact H7
  ipureintro
  sl_unfold_run_names
  refine (read_whole_store _ (by exact zero2) _ _ _ _).trans ?_
  simp only [View.readCov_cons_toLoadRect, View.readAt_eq_ld, hf1, hf2, hf5, hf6, hf7]
  repeat rw [View.ld_unit_zero zero2]
  rfl

end Cert.KernelIdeal.Routing

end
-- ==== Proof.RoutingDat.lean ====
module

public import proofs.«01_k».proof.Proof.RoutingRun

@[expose] public section

set_option maxRecDepth 16384

noncomputable section

namespace Cert.KernelIdeal.Routing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (Vc : (c : Dev nD) → (b : Ref sig .tc) → Buf (Elt F) ((c : Thread nD τ).loc b))

/-! ## The first call's proof data, at any entry contents -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vc c (Pipeline.arrRef spec0 w))

/-- The point of step `k`. -/
def pt (k : ℕ) : Fin cfg0.N := ⟨k % 8, by rw [show cfg0.N = 8 from N_0]; exact Nat.mod_lt _ (by decide)⟩
/-- The point of the number of a point is the point. -/
theorem pt_val (t : Fin cfg0.N) : pt t.val = t := Fin.ext (Nat.mod_eq_of_lt (lt_of_lt_of_eq t.isLt (show cfg0.N = 8 from N_0)))

/-- The running rows before step `k`. -/
def sumsAt (c : Dev nD) : ℕ → Sums F
  | 0 => sums0
  | k + 1 => next (iblk0 Vc c 0 (pt k)) (iblk0 Vc c 1 (pt k)) (sumsAt c k)
/-- The running rows after step `t` come from those before it and its blocks. -/
theorem sumsAt_succ (c : Dev nD) (t : Fin cfg0.N) :
    sumsAt Vc c (t.val + 1) = next (iblk0 Vc c 0 t) (iblk0 Vc c 1 t) (sumsAt Vc c t.val) := by
  show next (iblk0 Vc c 0 (pt t.val)) (iblk0 Vc c 1 (pt t.val)) (sumsAt Vc c t.val) = _
  rw [pt_val]

/-- Buffer `r` held, at some contents. -/
abbrev anyAt (c : Dev nD) (r : Ref sig .tc) : sProp 𝕄 := iprop(∃ f, ((c : Thread nD τ).loc r) ↦{fullShare} (f : Buf (Elt F) ((c : Thread nD τ).loc r)))

/-- The scratch rows before step `k`: at anything before the first, at the running rows afterwards. -/
def rowsP (c : Dev nD) (k : ℕ) : sProp 𝕄 :=
  if k = 0 then iprop(anyAt (F := F) c cc0_scratch0 ∗ anyAt (F := F) c cc0_scratch1 ∗ anyAt (F := F) c cc0_scratch2)
  else iprop(owns (c : Thread nD τ) (Memref.whole cc0_scratch0 : Memref sig .tc .vmem S1x16 .f32) fullShare (sumsAt Vc c k).1
    ∗ owns (c : Thread nD τ) (Memref.whole cc0_scratch1 : Memref sig .tc .vmem S1x16 .f32) fullShare (sumsAt Vc c k).2.1
    ∗ owns (c : Thread nD τ) (Memref.whole cc0_scratch2 : Memref sig .tc .vmem S1x16 .f32) fullShare (sumsAt Vc c k).2.2)

/-- The buffers of the second call, which the first leaves alone. -/
abbrev others (c : Dev nD) : sProp 𝕄 :=
  iprop(anyAt (F := F) c cc1_stg0_0 ∗ anyAt (F := F) c cc1_stg1_0 ∗ anyAt (F := F) c cc1_scratch0 ∗ anyAt (F := F) c cc1_scratch1)

/-- The invariant before step `k`. -/
def Phi0 (c : Dev nD) (k : ℕ) : sProp 𝕄 := iprop(others (F := F) c ∗ (∃ r, prngReg c r) ∗ rowsP Vc c k)

/-- The proof data: the arrays as entered, the input blocks left as read, the outputs as one step computes them. -/
def dat0 (c : Dev nD) : Dat τ (Elt F) Unit ℕ (Pipeline.UD sig nD τ) ℕ cfg0 c where
  A w := Vc c (Pipeline.arrRef spec0 w)
  after w t := match w with
    | ⟨0, _⟩ => iblk0 Vc c 0 t
    | ⟨1, _⟩ => iblk0 Vc c 1 t
    | ⟨2, _⟩ => metaOf (iblk0 Vc c 0 t) (iblk0 Vc c 1 t) (sumsAt Vc c t.val)
    | ⟨3, _⟩ => auxOf (sumsAt Vc c (t.val + 1))
  Φ t := Phi0 Vc c t.val
  q _ := fullShare
  owed _ := 0

/-- The arrays of the proof data are the arrays as the call finds them. -/
theorem A0_eq (c : Dev nD) (w : Fin cfg0.W) : (dat0 Vc c).A w = Vc c (Pipeline.arrRef spec0 w) := by
  dsimp only [dat0]
/-- Before point `t` the invariant is the one numbered `t`. -/
theorem Phi0_castSucc (c : Dev nD) (t : Fin cfg0.N) : (dat0 Vc c).Φ t.castSucc = Phi0 Vc c t.val := by
  dsimp only [dat0]; simp only [Fin.coe_castSucc]
/-- After point `t` the invariant is the next one. -/
theorem Phi0_succ (c : Dev nD) (t : Fin cfg0.N) : (dat0 Vc c).Φ t.succ = Phi0 Vc c (t.val + 1) := by
  dsimp only [dat0]; simp only [Fin.val_succ]
/-- The token block is left as it was read. -/
theorem after0_0 (c : Dev nD) (t : Fin cfg0.N) : (dat0 Vc c).after 0 t = iblk0 Vc c 0 t := by dsimp only [dat0]
/-- The column block is left as it was read. -/
theorem after0_1 (c : Dev nD) (t : Fin cfg0.N) : (dat0 Vc c).after 1 t = iblk0 Vc c 1 t := by dsimp only [dat0]
/-- The body leaves the per-token data of its block. -/
theorem after0_2 (c : Dev nD) (t : Fin cfg0.N) : (dat0 Vc c).after 2 t = metaOf (iblk0 Vc c 0 t) (iblk0 Vc c 1 t) (sumsAt Vc c t.val) := by dsimp only [dat0]
/-- The body leaves the small result of the rows so far. -/
theorem after0_3 (c : Dev nD) (t : Fin cfg0.N) : (dat0 Vc c).after 3 t = auxOf (sumsAt Vc c (t.val + 1)) := by dsimp only [dat0]
/-- The body finds the token block in its buffer. -/
theorem before0_0 (c : Dev nD) (t : Fin cfg0.N) (d) : (dat0 Vc c).before 0 t d = iblk0 Vc c 0 t :=
  ((dat0 Vc c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- The body finds the column block in its buffer. -/
theorem before0_1 (c : Dev nD) (t : Fin cfg0.N) (d) : (dat0 Vc c).before 1 t d = iblk0 Vc c 1 t :=
  ((dat0 Vc c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-! ## The body obligation -/

/-- What the body is called with at point `t`, and what it returns. -/
def bodyPre0 (c : Dev nD) (t : Fin cfg0.N) : sProp 𝕄 :=
  iprop((dat0 Vc c).Φ t.castSucc ∗ (dat0 Vc c).owesAt () t.castSucc
    ∗ (∃ d, owns (c : Thread nD τ) (st0_0 t) fullShare ((dat0 Vc c).before 0 t d))
    ∗ (∃ d, owns (c : Thread nD τ) (st0_1 t) fullShare ((dat0 Vc c).before 1 t d))
    ∗ (∃ d, owns (c : Thread nD τ) (st0_2 t) fullShare ((dat0 Vc c).before 2 t d))
    ∗ (∃ d, owns (c : Thread nD τ) (st0_3 t) fullShare ((dat0 Vc c).before 3 t d)))
/-- What the body returns at point `t`. -/
def bodyPost0 (c : Dev nD) (t : Fin cfg0.N) : sProp 𝕄 :=
  iprop((dat0 Vc c).Φ t.succ ∗ (dat0 Vc c).owesAt () t.succ
    ∗ owns (c : Thread nD τ) (st0_0 t) fullShare ((dat0 Vc c).after 0 t)
    ∗ owns (c : Thread nD τ) (st0_1 t) fullShare ((dat0 Vc c).after 1 t)
    ∗ owns (c : Thread nD τ) (st0_2 t) fullShare ((dat0 Vc c).after 2 t)
    ∗ owns (c : Thread nD τ) (st0_3 t) fullShare ((dat0 Vc c).after 3 t))

set_option maxHeartbeats 1200000 in
/-- The body at any point: the first step, or a later one from the rows before it. -/
theorem sound_body0 (c : Dev nD) (t : Fin cfg0.N) :
    bodyPre0 Vc c t ⊢ wp frame (wpE (defs₀ (F := F)) Variants.none c none) Set.univ (bodyAt0 t) (fun _ => bodyPost0 Vc c t) := by
  unfold bodyPre0 bodyPost0 bodyAt0
  simp only [before0_0, before0_1]
  rw [after0_0, after0_1, after0_2, after0_3, Phi0_castSucc Vc c t, Phi0_succ Vc c t]
  unfold Dat.owesAt Pipeline.owesWithin
  rw [show (dat0 Vc c).owed t.castSucc = 0 from rfl, show (dat0 Vc c).owed t.succ = 0 from rfl]
  unfold Phi0
  have hsucc := sumsAt_succ Vc c t
  have hout : rowsP Vc c (t.val + 1) = _ := if_neg (Nat.succ_ne_zero t.val)
  rw [hout, hsucc]
  by_cases h0 : t.val = 0
  · have run := run_first c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (Memref.whole cc0_scratch0) (Memref.isWhole_whole _) (Memref.whole cc0_scratch1) (Memref.isWhole_whole _) (Memref.whole cc0_scratch2) (Memref.isWhole_whole _)
      ((isFirst_iff t).mpr h0) (iblk0 Vc c 0 t) (iblk0 Vc c 1 t)
    have hs : sumsAt Vc c t.val = sums0 := by rw [h0]; rfl
    have hin : rowsP Vc c t.val = _ := if_pos h0
    rw [hin, hs]
    iintro ⟨⟨Ho, Hg, ⟨%e5, H5⟩, ⟨%e6, H6⟩, ⟨%e7, H7⟩⟩, ⟨%W, -, HW⟩, ⟨%d0, H0⟩, ⟨%d1, H1⟩, ⟨%d2, H2⟩, ⟨%d3, H3⟩⟩
    iapply (run _)
    isplitl [H0]; · iexact H0
    isplitl [H1]; · iexact H1
    isplitl [H2]; · iexists _; iexact H2
    isplitl [H3]; · iexists _; iexact H3
    isplitl [H5]; · iexists _; rw [owns_whole]; iexact H5
    isplitl [H6]; · iexists _; rw [owns_whole]; iexact H6
    isplitl [H7]; · iexists _; rw [owns_whole]; iexact H7
    iintro ⟨H0, H1, H2, H3, H5, H6, H7⟩
    isplitl [Ho Hg H5 H6 H7]
    · isplitl [Ho]; · iexact Ho
      isplitl [Hg]; · iexact Hg
      isplitl [H5]; · iexact H5
      isplitl [H6] <;> iassumption
    isplitl [HW]
    · iexists W; isplitr; · ipureintro; exact fun _ _ => Or.inl trivial
      iexact HW
    isplitl [H0]; · iexact H0
    isplitl [H1]; · iexact H1
    isplitl [H2] <;> iassumption
  · have run := run_later c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (Memref.whole cc0_scratch0) (Memref.isWhole_whole _) (Memref.whole cc0_scratch1) (Memref.isWhole_whole _) (Memref.whole cc0_scratch2) (Memref.isWhole_whole _)
      (fun h => h0 ((isFirst_iff t).mp h)) (iblk0 Vc c 0 t) (iblk0 Vc c 1 t) (sumsAt Vc c t.val)
    have hin : rowsP Vc c t.val = _ := if_neg h0
    rw [hin]
    iintro ⟨⟨Ho, Hg, H5, H6, H7⟩, ⟨%W, -, HW⟩, ⟨%d0, H0⟩, ⟨%d1, H1⟩, ⟨%d2, H2⟩, ⟨%d3, H3⟩⟩
    iapply (run _)
    isplitl [H0]; · iexact H0
    isplitl [H1]; · iexact H1
    isplitl [H2]; · iexists _; iexact H2
    isplitl [H3]; · iexists _; iexact H3
    isplitl [H5]; · iexact H5
    isplitl [H6]; · iexact H6
    isplitl [H7]; · iexact H7
    iintro ⟨H0, H1, H2, H3, H5, H6, H7⟩
    isplitl [Ho Hg H5 H6 H7]
    · isplitl [Ho]; · iexact Ho
      isplitl [Hg]; · iexact Hg
      isplitl [H5]; · iexact H5
      isplitl [H6] <;> iassumption
    isplitl [HW]
    · iexists W; isplitr; · ipureintro; exact fun _ _ => Or.inl trivial
      iexact HW
    isplitl [H0]; · iexact H0
    isplitl [H1]; · iexact H1
    isplitl [H2] <;> iassumption

/-- The called body is the first call's body at that point. -/
theorem defs₀_row0 (t : Fin cfg0.N) : defs₀ (F := F) .tc cfg0.body (cfg0.bodyArgs t (cfg0.slots t)) = bodyAt0 t := by
  unfold defs₀; rw [Defs.onTc_tc]

/-- The body obligation of the first call, at every point. -/
theorem body_obligation0 (c : Dev nD) : BodyObligation (dat0 (F := F) Vc c) (defs₀ (F := F)) Variants.none () Set.univ := fun t => by
  rw [bigSep_W0, bigSep_W0, defs₀_row0]
  exact triple_restated (sound_body0 Vc c t) rfl .rfl fun _ => .rfl

/-- What the launch hands the call is the invariant before the first step; -/
theorem hin0 (c : Dev nD) : iprop(Pipeline.scopedRest (Ix := Unit) (Name := ℕ) (U := Pipeline.UD sig nD τ) (Lvl := ℕ) (Val := Elt F) spec0 c ∗ (∃ r, prngReg c r)) ⊢ ((dat0 Vc c).Φ 0 : sProp 𝕄) := by
  rw [scopedRest0_eq, show (dat0 Vc c).Φ 0 = Phi0 Vc c 0 from rfl]
  unfold Phi0
  rw [show rowsP Vc c 0 = _ from if_pos rfl]
  iintro ⟨⟨Ha, Hb, Hc, Hd, He, Hf, Hh⟩, Hg⟩
  isplitl [Hd He Hf Hh]
  · isplitl [Hd]; · iexact Hd
    isplitl [He]; · iexact He
    isplitl [Hf] <;> iassumption
  isplitl [Hg]; · iexact Hg
  isplitl [Ha]; · iexact Ha
  isplitl [Hb] <;> iassumption

/-- and the invariant after the last step hands the same back. -/
theorem hout0 (c : Dev nD) : ((dat0 Vc c).Φ (Fin.last cfg0.N) : sProp 𝕄)
    ⊢ iprop(Pipeline.scopedRest (Ix := Unit) (Name := ℕ) (U := Pipeline.UD sig nD τ) (Lvl := ℕ) (Val := Elt F) spec0 c ∗ (∃ r, prngReg c r)) := by
  rw [scopedRest0_eq, show (dat0 Vc c).Φ (Fin.last cfg0.N) = Phi0 Vc c grid0.N from rfl, show grid0.N = 8 from N_0]
  unfold Phi0
  rw [show rowsP Vc c 8 = _ from if_neg (by decide), owns_whole, owns_whole, owns_whole]
  iintro ⟨⟨Hd, He, Hf, Hh⟩, Hg, Ha, Hb, Hc⟩
  isplitr [Hg]
  · isplitl [Ha]; · iexists _; iexact Ha
    isplitl [Hb]; · iexists _; iexact Hb
    isplitl [Hc]; · iexists _; iexact Hc
    isplitl [Hd]; · iexact Hd
    isplitl [He]; · iexact He
    isplitl [Hf] <;> iassumption
  iexact Hg

end Cert.KernelIdeal.Routing

end
-- ==== Proof.Launch.lean ====
module

public import proofs.«01_k».proof.Proof.Gen.KernelIdeal.Regions
public import proofs.«01_k».proof.Proof.ExpandDat
public import proofs.«01_k».proof.Proof.RoutingDat
public import Idealize.ShloMosaic.Lib.Pipeline.RegionArraysS
public import Idealize.ShloMosaic.Lib.Pipeline.RegionArraysD
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the two calls leave -/

/-- The buffers as the first call finds them. -/
def In0 (c : Dev nD) (b : Ref sig .tc) : Buf (Elt F) ((c : Thread nD τ).loc b) := V1 m c (Proc.devRef .tc b)
/-- What the first call leaves. -/
def mid (c : Dev nD) : Valuation τ sig (Elt F) := Pipeline.afterRegion (Routing.dat0 (In0 m) c) (V1 m c)
/-- The buffers as the second call finds them. -/
def In1 (c : Dev nD) (b : Ref sig .tc) : Buf (Elt F) ((c : Thread nD τ).loc b) := mid m c (Proc.devRef .tc b)
/-- What the second call leaves in its two results. -/
def last (r : Ref sig .tc) (c : Dev nD) : Buf (Elt F) ((c : Thread nD τ).loc r) :=
  if h : r = main_call0_v2_0 then h ▸ (Expand.fullC (Expand.EC (In1 m) c) : Buf (Elt F) ((c : Thread nD τ).loc main_call0_v2_0))
  else if h : r = main_call0_v2_1 then h ▸ (Expand.fullD (Expand.ED (In1 m) c) : Buf (Elt F) ((c : Thread nD τ).loc main_call0_v2_1))
  else m ((c : Thread nD τ).loc r)
/-- Both, as the launch's statement takes them. -/
def outs : Outs (F := F) := fun k r c => if k = 2 then In1 m c r else last m r c

/-- The proof data of the two calls. -/
def pdats : (p : Fin 2) → (c : Dev nD) → Dat τ (Elt F) Unit ℕ (Pipeline.UD sig nD τ) ℕ (cfgs p) c
  | ⟨0, _⟩ => Routing.dat0 (In0 m)
  | ⟨1, _⟩ => Expand.dat1 (In1 m)

/-- Away from the first call's two results its buffers stay as they were. -/
theorem mid_of (c : Dev nD) (r : Ref sig .tc) (h : r ≠ main_call0_v1_0 ∧ r ≠ main_call0_v1_1) :
    mid m c (Proc.devRef .tc r) = V1 m c (Proc.devRef .tc r) := by
  unfold mid
  refine Pipeline.afterRegion_keeps _ _ launch0.win.arr_inj (fun w => Routing.A0_eq (In0 m) c w) r fun w hw => ?_
  fin_cases w
  · rfl
  · rfl
  · exact absurd hw.symm h.1
  · exact absurd hw.symm h.2

/-- The contents after the first call, as the launch's statement spells them. -/
theorem V2_eq (c : Dev nD) (r : Ref sig .tc) : V2 m (outs m) c (Proc.devRef .tc r) = mid m c (Proc.devRef .tc r) := by
  by_cases h1 : r = main_call0_v1_1
  · subst h1
    exact (Function.update_self _ _ _)
  by_cases h0 : r = main_call0_v1_0
  · subst h0
    exact (Function.update_of_ne (StableHlo.devRef_ne_of_ne h1) _ _).trans (Function.update_self _ _ _)
  · rw [V2_of m (outs m) c r (by simp [h0, h1])]
    exact (mid_of m c r ⟨h0, h1⟩).symm

/-- Away from its two results the second call leaves what the first left. -/
theorem V3_off (c : Dev nD) (r : Ref sig .tc) (h0 : r ≠ main_call0_v2_0) (h1 : r ≠ main_call0_v2_1) :
    V3 m (outs m) c (Proc.devRef .tc r) = mid m c (Proc.devRef .tc r) :=
  (V3_of m (outs m) c r (by simp [h0, h1])).trans (V2_eq m c r)
/-- The second call leaves the marks in its second result. -/
theorem V3_D (c : Dev nD) : V3 m (outs m) c (Proc.devRef .tc main_call0_v2_1) = (Expand.fullD (Expand.ED (In1 m) c) : Buf (Elt F) ((c : Thread nD τ).loc main_call0_v2_1)) :=
  (Function.update_self _ _ _).trans rfl
/-- The second call leaves the weights in its first result. -/
theorem V3_C (c : Dev nD) : V3 m (outs m) c (Proc.devRef .tc main_call0_v2_0) = (Expand.fullC (Expand.EC (In1 m) c) : Buf (Elt F) ((c : Thread nD τ).loc main_call0_v2_0)) :=
  (Function.update_of_ne (StableHlo.devRef_ne_of_ne (by decide)) _ _).trans ((Function.update_self _ _ _).trans rfl)

/-! ## The two calls as segments of the run -/

/-- No core owes another anything: one level serves. -/
abbrev L : GSem nD τ sig → Finset Unit := fun g => if g.1.2 = .tc then {()} else ∅
/-- The one level of the waits. -/
abbrev lv : GSem nD τ sig → Unit → ℕ := fun _ _ => 0

/-- What rides beside the buffers: what the core owes, and its generator register. -/
abbrev E (c : Dev nD) : sProp 𝕄 :=
  iprop((∃ W, owes (c : Thread nD τ) (0 : CellTallies nD τ sig Unit) W) ∗ (∃ r, prngReg c r) ∗ emp)

/-- With one level and nothing owed, every wait is allowed. -/
theorem cut (p : Fin 2) : Pipeline.LevelCut (pcfgs (F := F)) adm () L lv p (fun _ => 0) (fun _ => 0) where
  hι c w s := Finset.mem_singleton_self _
  hιb c w s := le_refl _
  hD c g i h := absurd h (by simp)

set_option backward.isDefEq.respectTransparency.types false in
/-- The first call. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Routing.body_obligation0 (In0 m) c).loose) (fun _ _ => rfl) (fun _ => rfl)
    (fun c => (pdats m 0 c).share_full fun _ => rfl)
    (fun c => Routing.hin0 (In0 m) c) (fun c => Routing.hout0 (In0 m) c) (fun _ => 0) (cut 0) (fun _ => iprop(emp)) (V1 m)
    (fun c w => Routing.A0_eq (In0 m) c w)

/-- The second call's two results, as the set its own copies write. -/
abbrev Rw : Finset (Ref sig .tc) := {main_call0_v2_0, main_call0_v2_1}
/-- The held buffers that are none of the second call's windows. -/
abbrev Sr : Finset (DevRef τ sig) := Pipeline.ucRefs τ sig \ Pipeline.arrRefs spec1

/-- The second call's results are none of its windows' arrays. -/
theorem Rw_sub : Pipeline.hbmRefs (τ := τ) Rw ⊆ Sr \ Pipeline.hbmRefs (∅ : Finset (Ref sig .tc)) := by decide

omit [FloatOps F] in
/-- The two results one by one. -/
theorem bigSep_Rw (Φ : Ref sig .tc → sProp 𝕄) : bigSep Rw Φ = iprop(Φ main_call0_v2_0 ∗ Φ main_call0_v2_1) := by
  unfold Rw
  rw [BI.bigSep_insert (by decide), BI.bigSep_singleton]; rfl

/-- The second call's windows read neither of its results. -/
theorem arr1_ne : ∀ w : Fin cfg1.W, Pipeline.arrRef spec1 w ≠ main_call0_v2_0 ∧ Pipeline.arrRef spec1 w ≠ main_call0_v2_1 := by decide
/-- The first call's arrays are among the held buffers. -/
theorem arr0_sub : Pipeline.arrRefs spec0 ⊆ Pipeline.ucRefs τ sig := Pipeline.arrRefs_sub_ucRefs spec0 (by decide)
/-- The second call's arrays are among the held buffers. -/
theorem arr1_sub : Pipeline.arrRefs spec1 ⊆ Pipeline.ucRefs τ sig := Pipeline.arrRefs_sub_ucRefs spec1 (by decide)

set_option backward.isDefEq.respectTransparency.types false in
/-- The second call. -/
def reg1 : RegionSeg (pcfgs (F := F)) adm (pdats m) () defs₀ Variants.none L lv 1 :=
  RegionSeg.ofHeldDW (pcfgs (F := F)) adm (pdats m) () defs₀ Variants.none L lv 1 (fun _ => 0) () Expand.osem1 Expand.ownSemFacts1
    ∅ Rw Sr (fun _ h => absurd h (by simp [Pipeline.hbmRefs])) Rw_sub launch1.toP rfl
    (fun c => (Expand.body_obligation1 (In1 m) c).loose) (fun _ _ => rfl) (fun _ => rfl)
    (fun c => (pdats m 1 c).share_full fun _ => rfl)
    (fun c => BI.BIBase.Entails.trans (by iintro -; iempintro) (Transfers.MayWaits.zero (c : Thread nD τ) ()))
    (V2 m (outs m)) (V3 m (outs m))
    (fun c b hb => by
      obtain ⟨hb, hn⟩ := Finset.mem_sdiff.mp hb
      refine (Function.update_of_ne ?_ _ _).trans (Function.update_of_ne ?_ _ _) <;>
        exact fun e => hn (e ▸ by decide))
    (fun c => by
      rw [bigSep_Rw, BI.bigSep_empty, V2_eq, V2_eq]
      refine BI.BIBase.Entails.trans ?_ (Expand.hin1 (In1 m) c)
      iintro ⟨Hr, Hg, Ho, -, ⟨HX, HY⟩, -⟩
      isplitl [Hr]; · iexact Hr
      isplitl [Hg]; · iexact Hg
      isplitl [Ho]; · iexact Ho
      isplitl [HX]; · iexists _; iexact HX
      iexists _; iexact HY)
    (fun c => by
      rw [bigSep_Rw, BI.bigSep_empty, V3_C, V3_D]
      refine BI.BIBase.Entails.trans (Expand.hout1 (In1 m) c) ?_
      iintro ⟨Hr, Hg, Ho, HX, HY⟩
      isplitl [Hr]; · iexact Hr
      isplitl [Hg]; · iexact Hg
      isplitl [Ho]; · iexact Ho
      isplitr; · iempintro
      isplitl [HX] <;> iassumption)
    (fun _ => 0) (cut 1) (fun _ => iprop(emp))
    (fun c w => (Expand.A1_eq (In1 m) c w).trans (V2_eq m c _).symm)
    (fun c w => by
      have hin : (cfg1.win w).isOut = false := by fin_cases w <;> rfl
      refine ((Expand.dat1 (In1 m) c).arrAt_in w hin _).trans ((Expand.A1_eq (In1 m) c w).trans (V3_off m c _ (arr1_ne w).1 (arr1_ne w).2).symm))

/-- Between the items the buffers are as the statement says, beside what rides along. -/
theorem pre0 (c : Dev nD) : iprop(StableHlo.held (c : Thread nD τ) (Pipeline.ucRefs τ sig) (V1 m c) ∗ E c) ⊢ (reg0 m).pre c := by
  show _ ⊢ iprop(StableHlo.held (c.tc : Thread nD τ) (Pipeline.arrRefs spec0) (V1 m c) ∗ (∃ r, prngReg c r)
      ∗ (StableHlo.held (c.tc : Thread nD τ) (Pipeline.ucRefs τ sig \ Pipeline.arrRefs spec0) (V1 m c) ∗ emp) ∗ ∃ Wd, owes (c : Thread nD τ) 0 Wd)
  rw [StableHlo.held_sub_split (c.tc : Thread nD τ) arr0_sub (V1 m c)]
  iintro ⟨⟨Ha, Hu⟩, HO, Hg, He⟩
  isplitl [Ha]; · iexact Ha
  isplitl [Hg]; · iexact Hg
  isplitl [Hu He]
  · isplitl [Hu] <;> iassumption
  iexact HO
/-- After the first call the buffers are as the statement says. -/
theorem post0 (c : Dev nD) : (reg0 m).post c ⊢ iprop(StableHlo.held (c : Thread nD τ) (Pipeline.ucRefs τ sig) (V2 m (outs m) c) ∗ E c) := by
  rw [StableHlo.held_congr (c : Thread nD τ) (S := Pipeline.ucRefs τ sig) (V := V2 m (outs m) c) (V' := mid m c) fun b hb => by
    obtain ⟨r, -, rfl⟩ := Finset.mem_map.mp (Finset.mem_filter.mp hb).1
    exact V2_eq m c r]
  show iprop(StableHlo.held (c.tc : Thread nD τ) (Pipeline.arrRefs spec0) (mid m c) ∗ (∃ r, prngReg c r)
      ∗ (StableHlo.held (c.tc : Thread nD τ) (Pipeline.ucRefs τ sig \ Pipeline.arrRefs spec0) (V1 m c) ∗ emp) ∗ ∃ Wd, owes (c : Thread nD τ) 0 Wd) ⊢ _
  rw [StableHlo.held_sub_split (c.tc : Thread nD τ) arr0_sub (mid m c),
    StableHlo.held_congr (c.tc : Thread nD τ) (S := Pipeline.ucRefs τ sig \ Pipeline.arrRefs spec0) (V := mid m c) (V' := V1 m c)
      (Pipeline.afterRegion_off (Routing.dat0 (In0 m) c) (V1 m c) _)]
  iintro ⟨Ha, Hg, ⟨Hu, He⟩, HO⟩
  isplitl [Ha Hu]
  · isplitl [Ha] <;> iassumption
  isplitl [HO]; · iexact HO
  isplitl [Hg] <;> iassumption
/-- Before the second call the buffers are what the call asks for. -/
theorem pre1 (c : Dev nD) : iprop(StableHlo.held (c : Thread nD τ) (Pipeline.ucRefs τ sig) (V2 m (outs m) c) ∗ E c) ⊢ (reg1 m).pre c := by
  show _ ⊢ iprop(StableHlo.held (c.tc : Thread nD τ) (Pipeline.arrRefs spec1) (V2 m (outs m) c) ∗ (∃ r, prngReg c r)
      ∗ (StableHlo.held (c.tc : Thread nD τ) Sr (V2 m (outs m) c) ∗ emp) ∗ ∃ Wd, owes (c : Thread nD τ) 0 Wd)
  rw [StableHlo.held_sub_split (c.tc : Thread nD τ) arr1_sub (V2 m (outs m) c)]
  iintro ⟨⟨Ha, Hu⟩, HO, Hg, He⟩
  isplitl [Ha]; · iexact Ha
  isplitl [Hg]; · iexact Hg
  isplitl [Hu He]
  · isplitl [Hu] <;> iassumption
  iexact HO
/-- After the second call the buffers are as the statement says. -/
theorem post1 (c : Dev nD) : (reg1 m).post c ⊢ iprop(StableHlo.held (c : Thread nD τ) (Pipeline.ucRefs τ sig) (V3 m (outs m) c) ∗ E c) := by
  show iprop(StableHlo.held (c.tc : Thread nD τ) (Pipeline.arrRefs spec1) (V3 m (outs m) c) ∗ (∃ r, prngReg c r)
      ∗ (StableHlo.held (c.tc : Thread nD τ) Sr (V3 m (outs m) c) ∗ emp) ∗ ∃ Wd, owes (c : Thread nD τ) 0 Wd) ⊢ _
  rw [StableHlo.held_sub_split (c.tc : Thread nD τ) arr1_sub (V3 m (outs m) c)]
  iintro ⟨Ha, Hg, ⟨Hu, He⟩, HO⟩
  isplitl [Ha Hu]
  · isplitl [Ha] <;> iassumption
  isplitl [HO]; · iexact HO
  isplitl [Hg] <;> iassumption

/-! ## The run -/

/-- The pipeline library's share of the launch element. -/
abbrev EP : Emb (URounds (GSem nD τ sig) Unit) (MT nD τ sig Unit (Elt F) ℕ (Pipeline.UD sig nD τ) ℕ) := embL
/-- What the run starts with beside the buffers. -/
def u₀ : Pipeline.UD sig nD τ := (initOf (Pipeline.cells cfgs cellOf_inj) (Pipeline.launchToks cfgs cellOf_inj), 1)

omit [FloatOps F] in
/-- The start hands out what the calls need. -/
theorem launch_own : (ownU u₀ : sProp 𝕄) ⊢ |={Set.univ}=> iprop(BI.own ((EP (F := F)) (initOf (Pipeline.cells cfgs cellOf_inj) (Pipeline.launchToks cfgs cellOf_inj)))
    ∗ bigSep Finset.univ (fun _ : Dev nD => iprop(emp))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- At launch every core owes nothing and has its register. -/
theorem launch_E : iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts L lv)
    ⊢ (|={Set.univ}=> bigSep Finset.univ (E (F := F)) : sProp 𝕄) := by
  refine Pipeline.initEach L lv fun c => ?_
  iintro ⟨⟨-, HO, -, Hg, He⟩, -⟩
  imodintro
  isplitl [HO]; · iexists ∅; iexact HO
  isplitl [Hg]; · iexists _; iexact Hg
  iexact He

/-- The results and the arguments, read at the end of the run. -/
def Ends (s : MemSt nD τ sig (Elt F)) (c : Dev nD) : Prop :=
  (s.mem ((c.tc : Thread nD τ).loc main_arg0) = m ((c.tc : Thread nD τ).loc main_arg0)
    ∧ s.mem ((c.tc : Thread nD τ).loc main_arg1) = m ((c.tc : Thread nD τ).loc main_arg1))
  ∧ s.mem ((c.tc : Thread nD τ).loc main_v0_0) = V4 m (outs m) c (Proc.devRef .tc main_v0_0)
  ∧ s.mem ((c.tc : Thread nD τ).loc main_v0_1) = V4 m (outs m) c (Proc.devRef .tc main_v0_1)
  ∧ s.mem ((c.tc : Thread nD τ).loc main_v0_2) = V4 m (outs m) c (Proc.devRef .tc main_v0_2)

set_option backward.isDefEq.respectTransparency.types false in
/-- From any memory with zero counters the program terminates; the arguments are as launched, the results are what the
    host operations after the two calls make of what the calls leave, and every counter is at zero. -/
theorem run : θ_run defs (onTc (τ := τ) (main (F := F))) ⟨m, fun _ => 0, ρ⟩ (fun r => (∀ c : Dev nD, Ends m r.2 c) ∧ r.2.sem = fun _ => 0) := by
  refine Pipeline.θ_run_regions_kit_dev_sems (pcfgs (F := F)) adm (pdats m) () cellOf_inj EP defs₀ Variants.none L lv m ρ main
    (segs m (outs m) Variants.none L lv (fun _ => E) () (pdats m) (reg0 m) (reg1 m))
    (fun c Q => by
      rewrite [main_chain c, Pipeline.Seg.run_eq_chain,
        show (segs m (outs m) Variants.none L lv (fun _ => E) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun g hg => if_neg hg) (fun _ => iprop(emp)) u₀ launch_own
    (T₀ := fun c => iprop(StableHlo.held (c : Thread nD τ) (Pipeline.ucRefs τ sig) (V0 m c) ∗ E c))
    (Tₙ := fun c => StableHlo.held (c : Thread nD τ) (Pipeline.ucRefs τ sig) (V4 m (outs m) c))
    (hch := fun c => ⟨.rfl, pre0 m c, (post0 m c).trans (pre1 m c), post1 m c, sep_mono .rfl (by iintro ⟨H, -, -⟩; iexact H)⟩)
    (hinit := ?_) (QY := fun c s => Ends m s c)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp)) : sProp 𝕄) := by
      rw [← bigSep_sep']
      exact bigSep_mono fun c _ => by
        rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (launch_E ρ) $$ [Hr Hla] with HE
    · isplitl [Hr] <;> iassumption
    have hjoin : (iprop((bigSep Finset.univ fun c : Dev nD => StableHlo.held (c : Thread nD τ) (Pipeline.ucRefs τ sig) (V0 m c)) ∗ bigSep Finset.univ (E (F := F))) : sProp 𝕄)
        ⊢ bigSep Finset.univ fun c : Dev nD => iprop(StableHlo.held (c : Thread nD τ) (Pipeline.ucRefs τ sig) (V0 m c) ∗ E c) := by
      have e := bigSep_sep' (s := Finset.univ) (Φ := fun c : Dev nD => (StableHlo.held (c : Thread nD τ) (Pipeline.ucRefs τ sig) (V0 m c) : sProp 𝕄)) (Ψ := E (F := F))
      exact e ▸ BI.Entails.refl _
    imodintro
    iapply hjoin
    isplitl [Hh] <;> iassumption
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have at_ (r : Ref sig .tc) (hr : ¬ (Proc.devRef .tc r : DevRef τ sig).isScoped) := h (Proc.devRef .tc r) (Finset.mem_filter.mpr ⟨StableHlo.devRef_mem_tcRefs r, hr⟩)
      exact ⟨⟨(at_ main_arg0 (by decide)).trans (V4_main_arg0 m (outs m) c), (at_ main_arg1 (by decide)).trans (V4_main_arg1 m (outs m) c)⟩,
        at_ main_v0_0 (by decide), at_ main_v0_1 (by decide), at_ main_v0_2 (by decide)⟩
    · iexact HSI

end Cert.KernelIdeal.Launch

end
-- ==== Proof.TwinRun.lean ====
module

public import proofs.«01_k».proof.Proof.Twin
public import proofs.«01_k».proof.Proof.Launch

@[expose] public section

set_option maxRecDepth 65536

noncomputable section

namespace Cert.Twin

open Idealize.ShloMosaic Idealize.ShloMosaic.TcCoe Idealize.SL.Sem

variable {F : FTy → Type} [FloatOps F]

/-- The kernel terminates from any memory with zero counters, leaves its arguments as launched, and returns every counter to zero. -/
theorem run (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have h := Cert.KernelIdeal.Launch.run (F := F) m g
  rw [← defs_eq, show Cert.KernelIdeal.main (F := F) = Cert.Kernel.main (F := F) from funext fun c => (main_eq c).symm] at h
  exact (θ_run _ _ _).mono (fun _ h => ⟨fun c => (h.1 c).1, h.2⟩) h

end Cert.Twin

end
-- ==== Proof.RefStages.lean ====
module

public import proofs.«01_k».proof.Proof.Gen.ReferenceIdeal

@[expose] public section

noncomputable section

namespace Cert.ReferenceIdeal.Stages

open Cert.ReferenceIdeal Cert.ReferenceIdeal.Gen
open Idealize.ShloMosaic

variable {F : FTy → Type} [FloatOps F]

/-- Tokens times the transposed weights. -/
def logits (x : FVec F S4096x4096 .f32) (w : FVec F S16x4096 .f32) : FVec F S4096x16 .f32 :=
  Host.dotGeneral dot_S4096x4096_S4096x16_S4096x16_1_0_0_1_n_n none x (transpose S4096x16 [1, 0] w transposes_S16x4096_S4096x16_1_0)

/-- A value per row, spread over the row. -/
def spread (a : FVec F S4096 .f32) : FVec F S4096x16 .f32 :=
  broadcastInDim S4096x16 ![0, 1] bcast_S4096x1_S4096x16_0_1 (broadcastInDim S4096x1 ![0] bcast_S4096_S4096x1_0 a)

/-- The same constant everywhere. -/
def all16 (b : BitVec 32) : FVec F S4096x16 .f32 := broadcastInDim S4096x16 ![] bcast_S_S4096x16 (constant S_ .f32 b)

/-- Sums along the rows. -/
def rowSum (a : FVec F S4096x16 .f32) : FVec F S4096 .f32 := Host.reduceAdd a (constant S_ .f32 0x00000000#32) reducesTo_S4096x16_S4096_d1 h_S_

/-- Sums along the columns. -/
def colSum (a : FVec F S4096x16 .f32) : FVec F S16 .f32 := Host.reduceAdd a (constant S_ .f32 0x00000000#32) reducesTo_S4096x16_S16_d0 h_S_

/-- The largest logit of each row. -/
def top (l : FVec F S4096x16 .f32) : FVec F S4096 .f32 :=
  maximumf (broadcastInDim S4096 ![] bcast_S_S4096 (constant S_ .f32 0xFF800000#32))
    (Host.reduce FloatOps.maximumf l (constant S_ .f32 0xFF800000#32) reducesTo_S4096x16_S4096_d1 h_S_)

/-- The exponentials of the logits less the row's largest. -/
def weights (l : FVec F S4096x16 .f32) : FVec F S4096x16 .f32 := Host.exp (subf l (spread (top l)))

/-- The gates: each exponential over its row's sum. -/
def gates (l : FVec F S4096x16 .f32) : FVec F S4096x16 .f32 := Host.divf (weights l) (spread (rowSum (weights l)))

/-- The first expert of largest value, row by row. -/
def best (g : FVec F S4096x16 .f32) : IVec S4096 32 := fun j =>
  (Host.argReduce reducer_argmax_f32_i32 g (iotaInDim S4096x16 32 1) (constant S_ .f32 0xFF800000#32) (constantI S_ 32 0#32) reducesTo_S4096x16_S4096_d1 h_S_ j).2

/-- One at the chosen expert, zero at the others. -/
def hot (i : IVec S4096 32) : FVec F S4096x16 .f32 :=
  uitofp .f32 (cmpi .eq (broadcastInDim S4096x16 ![0, 1] bcast_S4096x1_S4096x16_0_1 (broadcastInDim S4096x1 ![0] bcast_S4096_S4096x1_0 i))
    (broadcastInDim S4096x16 ![0, 1] bcast_S1x16_S4096x16_0_1 (iotaInDim S1x16 32 1)))

/-- The logits with the first choice struck out. -/
def others (l m : FVec F S4096x16 .f32) : FVec F S4096x16 .f32 :=
  select (id (cmpf .une m (all16 0x00000000#32))) (broadcastInDim S4096x16 ![] bcast_S_S4096x16 (id (constant S_ .f32 0xFF800000#32))) l

/-- Running counts down the columns. -/
def cum (m : FVec F S4096x16 .f32) : FVec F S4096x16 .f32 :=
  Host.reduceWindowAdd ![4096, 1] ![1, 1] ![4095, 0] ![0, 0] m (broadcastInDim S_ ![] bcast_S_S_ (constant S_ .f32 0x00000000#32))
    reduceWindows_S4096x16_S4096x16_w4096s1p4095_0_w1s1p0_0 h_S_

/-- The place of each first choice. -/
def place1 (m1 : FVec F S4096x16 .f32) : FVec F S4096x16 .f32 := subf (cum m1) (all16 0x3F800000#32)

/-- The place of each second choice: behind all first choices. -/
def place2 (m1 m2 : FVec F S4096x16 .f32) : FVec F S4096x16 .f32 :=
  addf (subf (cum m2) (all16 0x3F800000#32))
    (broadcastInDim S4096x16 ![0, 1] bcast_S1x16_S4096x16_0_1 (broadcastInDim S1x16 ![1] bcast_S16_S1x16_1 (colSum m1)))

/-- A column mean. -/
def colMean (a : FVec F S4096x16 .f32) : FVec F S16 .f32 :=
  Host.divf (colSum a) (broadcastInDim S16 ![] bcast_S_S16 (constant S_ .f32 0x45800000#32))

/-- The balance term. -/
def balance (g m1 : FVec F S4096x16 .f32) : FVec F S_ .f32 :=
  mulf (mulf (Host.divf (Host.reduceAdd (mulf (colMean g) (colMean m1)) (constant S_ .f32 0x00000000#32) reducesTo_S16_S_d0 h_S_)
    (constant S_ .f32 0x41800000#32)) (constant S_ .f32 0x41800000#32)) (constant S_ .f32 0x41800000#32)

/-- The choices whose place is below the capacity. -/
def kept (p m : FVec F S4096x16 .f32) : FVec F S4096x16 .f32 := mulf m (uitofp .f32 (cmpf .olt p (all16 0x44000000#32)))

/-- The larger of a value and the small constant. -/
def clipped (a : FVec F S4096 .f32) : FVec F S4096 .f32 :=
  maximumf (broadcastInDim S4096 ![] bcast_S_S4096 (id (constant S_ .f32 0x34000000#32))) a

/-- One at the given place, zero at the others. -/
def slot (i : IVec S4096 32) : FVec F S4096x512 .f32 :=
  uitofp .f32 (cmpi .eq (broadcastInDim S4096x512 ![0, 1] bcast_S4096x1_S4096x512_0_1 (broadcastInDim S4096x1 ![0] bcast_S4096_S4096x1_0 i))
    (broadcastInDim S4096x512 ![0, 1] bcast_S1x512_S4096x512_0_1 (iotaInDim S1x512 32 1)))

/-- The share of one choice in the weights. -/
def part (s : FVec F S4096 .f32) (k p : FVec F S4096x16 .f32) : FVec F S4096x16x512 .f32 :=
  mulf (broadcastInDim S4096x16x512 ![0, 1, 2] bcast_S4096x16x1_S4096x16x512_0_1_2
      (broadcastInDim S4096x16x1 ![0, 1] bcast_S4096x16_S4096x16x1_0_1 (mulf (spread s) k)))
    (broadcastInDim S4096x16x512 ![0, 1, 2] bcast_S4096x1x512_S4096x16x512_0_1_2
      (broadcastInDim S4096x1x512 ![0, 2] bcast_S4096x512_S4096x1x512_0_2 (slot (fptosi 32 (rowSum (mulf p k))))))

/-- The combining weights. -/
def combine (g k1 k2 p1 p2 : FVec F S4096x16 .f32) : FVec F S4096x16x512 .f32 :=
  addf (part (Host.divf (rowSum (mulf g k1)) (clipped (addf (rowSum (mulf g k1)) (rowSum (mulf g k2))))) k1 p1)
    (part (Host.divf (rowSum (mulf g k2)) (clipped (addf (rowSum (mulf g k1)) (rowSum (mulf g k2))))) k2 p2)

/-- Where the weights are not zero. -/
def flags (a : FVec F S4096x16x512 .f32) : IVec S4096x16x512 1 :=
  id (cmpf .une a (broadcastInDim S4096x16x512 ![] bcast_S_S4096x16x512 (constant S_ .f32 0x00000000#32)))

end Cert.ReferenceIdeal.Stages

end
-- ==== Proof.RefLine.lean ====
module

public import proofs.«01_k».proof.Proof.RefStages
public import Idealize.ShloMosaic.Lib.StableHlo.Run

@[expose] public section

noncomputable section

namespace Cert.ReferenceIdeal.Line

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-- The operations that make the logits and the gates. -/
def opsA : List (HloOp τ sig (Elt F)) :=
  [ unary main_arg1 main_v0 ((transpose S4096x16 [1, 0] · transposes_S16x4096_S4096x16_1_0) : FVec F S16x4096 .f32 → FVec F S4096x16 .f32),
    binary main_arg0 main_v0 main_v1 ((fun l r => Host.dotGeneral dot_S4096x4096_S4096x16_S4096x16_1_0_0_1_n_n none l r) : FVec F S4096x4096 .f32 → FVec F S4096x16 .f32 → FVec F S4096x16 .f32),
    nullary main_cst (constant S_ .f32 0xFF800000#32),
    binary main_v1 main_cst main_v2 ((fun x v => Host.reduce FloatOps.maximumf x v reducesTo_S4096x16_S4096_d1 h_S_) : FVec F S4096x16 .f32 → FVec F S_ .f32 → FVec F S4096 .f32),
    nullary main_cst_0 (constant S_ .f32 0xFF800000#32),
    unary main_cst_0 main_v3 (broadcastInDim S4096 ![] bcast_S_S4096 : FVec F S_ .f32 → FVec F S4096 .f32),
    binary main_v3 main_v2 main_v4 (maximumf : FVec F S4096 .f32 → FVec F S4096 .f32 → FVec F S4096 .f32),
    unary main_v4 main_v5 (broadcastInDim S4096x1 ![0] bcast_S4096_S4096x1_0 : FVec F S4096 .f32 → FVec F S4096x1 .f32),
    unary main_v5 main_v6 (broadcastInDim S4096x16 ![0, 1] bcast_S4096x1_S4096x16_0_1 : FVec F S4096x1 .f32 → FVec F S4096x16 .f32),
    binary main_v1 main_v6 main_v7 (subf : FVec F S4096x16 .f32 → FVec F S4096x16 .f32 → FVec F S4096x16 .f32),
    unary main_v7 main_v8 (Host.exp : FVec F S4096x16 .f32 → FVec F S4096x16 .f32),
    nullary main_cst_1 (constant S_ .f32 0x00000000#32),
    binary main_v8 main_cst_1 main_v9 ((fun x v => Host.reduceAdd x v reducesTo_S4096x16_S4096_d1 h_S_) : FVec F S4096x16 .f32 → FVec F S_ .f32 → FVec F S4096 .f32),
    unary main_v9 main_v10 (broadcastInDim S4096x1 ![0] bcast_S4096_S4096x1_0 : FVec F S4096 .f32 → FVec F S4096x1 .f32),
    unary main_v10 main_v11 (broadcastInDim S4096x16 ![0, 1] bcast_S4096x1_S4096x16_0_1 : FVec F S4096x1 .f32 → FVec F S4096x16 .f32),
    binary main_v8 main_v11 main_v12 (Host.divf : FVec F S4096x16 .f32 → FVec F S4096x16 .f32 → FVec F S4096x16 .f32) ]

/-- The operations that make the two choices and their one-hot rows. -/
def opsB : List (HloOp τ sig (Elt F)) :=
  [ TRef.nullary (TRef.of (T := ⟨S4096x16, .i32⟩) main_call0_v0) (iotaInDim S4096x16 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4096x16, .f32⟩) main_v12) (TRef.of (T := ⟨S4096x16, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmax_f32_i32 x y u v reducesTo_S4096x16_S4096_d1 h_S_ j).1),
    TRef.quaternary (TRef.of (T := ⟨S4096x16, .f32⟩) main_v12) (TRef.of (T := ⟨S4096x16, .i32⟩) main_call0_v0) (TRef.of (T := ⟨S_, .f32⟩) main_call0_cst) (TRef.of (T := ⟨S_, .i32⟩) main_call0_c) (TRef.of (T := ⟨S4096, .i32⟩) main_v13) (fun x y u v j => (Host.argReduce reducer_argmax_f32_i32 x y u v reducesTo_S4096x16_S4096_d1 h_S_ j).2),
    TRef.unary (TRef.of (T := ⟨S4096, .i32⟩) main_v13) (TRef.of (T := ⟨S4096x1, .i32⟩) main_call1_v0) (broadcastInDim S4096x1 ![0] bcast_S4096_S4096x1_0),
    TRef.nullary (TRef.of (T := ⟨S1x16, .i32⟩) main_call1_v1) (iotaInDim S1x16 32 1),
    TRef.unary (TRef.of (T := ⟨S4096x1, .i32⟩) main_call1_v0) (TRef.of (T := ⟨S4096x16, .i32⟩) main_call1_v2) (broadcastInDim S4096x16 ![0, 1] bcast_S4096x1_S4096x16_0_1),
    TRef.unary (TRef.of (T := ⟨S1x16, .i32⟩) main_call1_v1) (TRef.of (T := ⟨S4096x16, .i32⟩) main_call1_v3) (broadcastInDim S4096x16 ![0, 1] bcast_S1x16_S4096x16_0_1),
    TRef.binary (TRef.of (T := ⟨S4096x16, .i32⟩) main_call1_v2) (TRef.of (T := ⟨S4096x16, .i32⟩) main_call1_v3) (TRef.of (T := ⟨S4096x16, .i1⟩) main_call1_v4) (cmpi .eq),
    TRef.unary (TRef.of (T := ⟨S4096x16, .i1⟩) main_call1_v4) (TRef.of (T := ⟨S4096x16, .f32⟩) main_v14) (uitofp .f32),
    nullary main_cst_2 (constant S_ .f32 0x00000000#32),
    unary main_cst_2 main_v15 (broadcastInDim S4096x16 ![] bcast_S_S4096x16 : FVec F S_ .f32 → FVec F S4096x16 .f32),
    binary main_v14 main_v15 main_v16 (cmpf .une : FVec F S4096x16 .f32 → FVec F S4096x16 .f32 → IVec S4096x16 1),
    unary main_v16 main_v17 (id : IVec S4096x16 1 → IVec S4096x16 1),
    nullary main_cst_3 (constant S_ .f32 0xFF800000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S4096x16, .f32⟩) main_call2_v1) (broadcastInDim S4096x16 ![] bcast_S_S4096x16),
    TRef.ternary (TRef.of (T := ⟨S4096x16, .i1⟩) main_v17) (TRef.of (T := ⟨S4096x16, .f32⟩) main_call2_v1) (TRef.of (T := ⟨S4096x16, .f32⟩) main_v1) (TRef.of (T := ⟨S4096x16, .f32⟩) main_v18) select,
    TRef.nullary (TRef.of (T := ⟨S4096x16, .i32⟩) main_call3_v0) (iotaInDim S4096x16 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S4096x16, .f32⟩) main_v18) (TRef.of (T := ⟨S4096x16, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmax_f32_i32 x y u v reducesTo_S4096x16_S4096_d1 h_S_ j).1),
    TRef.quaternary (TRef.of (T := ⟨S4096x16, .f32⟩) main_v18) (TRef.of (T := ⟨S4096x16, .i32⟩) main_call3_v0) (TRef.of (T := ⟨S_, .f32⟩) main_call3_cst) (TRef.of (T := ⟨S_, .i32⟩) main_call3_c) (TRef.of (T := ⟨S4096, .i32⟩) main_v19) (fun x y u v j => (Host.argReduce reducer_argmax_f32_i32 x y u v reducesTo_S4096x16_S4096_d1 h_S_ j).2),
    TRef.unary (TRef.of (T := ⟨S4096, .i32⟩) main_v19) (TRef.of (T := ⟨S4096x1, .i32⟩) main_call4_v0) (broadcastInDim S4096x1 ![0] bcast_S4096_S4096x1_0),
    TRef.nullary (TRef.of (T := ⟨S1x16, .i32⟩) main_call4_v1) (iotaInDim S1x16 32 1),
    TRef.unary (TRef.of (T := ⟨S4096x1, .i32⟩) main_call4_v0) (TRef.of (T := ⟨S4096x16, .i32⟩) main_call4_v2) (broadcastInDim S4096x16 ![0, 1] bcast_S4096x1_S4096x16_0_1),
    TRef.unary (TRef.of (T := ⟨S1x16, .i32⟩) main_call4_v1) (TRef.of (T := ⟨S4096x16, .i32⟩) main_call4_v3) (broadcastInDim S4096x16 ![0, 1] bcast_S1x16_S4096x16_0_1),
    TRef.binary (TRef.of (T := ⟨S4096x16, .i32⟩) main_call4_v2) (TRef.of (T := ⟨S4096x16, .i32⟩) main_call4_v3) (TRef.of (T := ⟨S4096x16, .i1⟩) main_call4_v4) (cmpi .eq),
    TRef.unary (TRef.of (T := ⟨S4096x16, .i1⟩) main_call4_v4) (TRef.of (T := ⟨S4096x16, .f32⟩) main_v20) (uitofp .f32) ]

/-- The operations that make the running counts. -/
def opsC : List (HloOp τ sig (Elt F)) :=
  [ TRef.nullary (TRef.of (T := ⟨S_, .f32⟩) main_call5_call0_cst) (constant S_ .f32 0x00000000#32),
    TRef.unary (TRef.of (T := ⟨S_, .f32⟩) main_call5_call0_cst) (TRef.of (T := ⟨S_, .f32⟩) main_call5_call0_v0) (broadcastInDim S_ ![] bcast_S_S_),
    TRef.binary (TRef.of (T := ⟨S4096x16, .f32⟩) main_v14) (TRef.of (T := ⟨S_, .f32⟩) main_call5_call0_v0) (TRef.of (T := ⟨S4096x16, .f32⟩) main_v21) (fun x v => Host.reduceWindowAdd ![4096, 1] ![1, 1] ![4095, 0] ![0, 0] x v reduceWindows_S4096x16_S4096x16_w4096s1p4095_0_w1s1p0_0 h_S_),
    nullary main_cst_4 (constant S_ .f32 0x3F800000#32),
    unary main_cst_4 main_v22 (broadcastInDim S4096x16 ![] bcast_S_S4096x16 : FVec F S_ .f32 → FVec F S4096x16 .f32),
    binary main_v21 main_v22 main_v23 (subf : FVec F S4096x16 .f32 → FVec F S4096x16 .f32 → FVec F S4096x16 .f32),
    TRef.nullary (TRef.of (T := ⟨S_, .f32⟩) main_call6_call0_cst) (constant S_ .f32 0x00000000#32),
    TRef.unary (TRef.of (T := ⟨S_, .f32⟩) main_call6_call0_cst) (TRef.of (T := ⟨S_, .f32⟩) main_call6_call0_v0) (broadcastInDim S_ ![] bcast_S_S_),
    TRef.binary (TRef.of (T := ⟨S4096x16, .f32⟩) main_v20) (TRef.of (T := ⟨S_, .f32⟩) main_call6_call0_v0) (TRef.of (T := ⟨S4096x16, .f32⟩) main_v24) (fun x v => Host.reduceWindowAdd ![4096, 1] ![1, 1] ![4095, 0] ![0, 0] x v reduceWindows_S4096x16_S4096x16_w4096s1p4095_0_w1s1p0_0 h_S_),
    nullary main_cst_5 (constant S_ .f32 0x3F800000#32),
    unary main_cst_5 main_v25 (broadcastInDim S4096x16 ![] bcast_S_S4096x16 : FVec F S_ .f32 → FVec F S4096x16 .f32),
    binary main_v24 main_v25 main_v26 (subf : FVec F S4096x16 .f32 → FVec F S4096x16 .f32 → FVec F S4096x16 .f32),
    nullary main_cst_6 (constant S_ .f32 0x00000000#32),
    binary main_v14 main_cst_6 main_v27 ((fun x v => Host.reduceAdd x v reducesTo_S4096x16_S16_d0 h_S_) : FVec F S4096x16 .f32 → FVec F S_ .f32 → FVec F S16 .f32),
    unary main_v27 main_v28 (broadcastInDim S1x16 ![1] bcast_S16_S1x16_1 : FVec F S16 .f32 → FVec F S1x16 .f32),
    unary main_v28 main_v29 (broadcastInDim S4096x16 ![0, 1] bcast_S1x16_S4096x16_0_1 : FVec F S1x16 .f32 → FVec F S4096x16 .f32),
    binary main_v26 main_v29 main_v30 (addf : FVec F S4096x16 .f32 → FVec F S4096x16 .f32 → FVec F S4096x16 .f32) ]

/-- The operations that make the balance term. -/
def opsD : List (HloOp τ sig (Elt F)) :=
  [ nullary main_cst_7 (constant S_ .f32 0x00000000#32),
    binary main_v12 main_cst_7 main_v31 ((fun x v => Host.reduceAdd x v reducesTo_S4096x16_S16_d0 h_S_) : FVec F S4096x16 .f32 → FVec F S_ .f32 → FVec F S16 .f32),
    nullary main_cst_8 (constant S_ .f32 0x45800000#32),
    unary main_cst_8 main_v32 (broadcastInDim S16 ![] bcast_S_S16 : FVec F S_ .f32 → FVec F S16 .f32),
    binary main_v31 main_v32 main_v33 (Host.divf : FVec F S16 .f32 → FVec F S16 .f32 → FVec F S16 .f32),
    nullary main_cst_9 (constant S_ .f32 0x00000000#32),
    binary main_v14 main_cst_9 main_v34 ((fun x v => Host.reduceAdd x v reducesTo_S4096x16_S16_d0 h_S_) : FVec F S4096x16 .f32 → FVec F S_ .f32 → FVec F S16 .f32),
    nullary main_cst_10 (constant S_ .f32 0x45800000#32),
    unary main_cst_10 main_v35 (broadcastInDim S16 ![] bcast_S_S16 : FVec F S_ .f32 → FVec F S16 .f32),
    binary main_v34 main_v35 main_v36 (Host.divf : FVec F S16 .f32 → FVec F S16 .f32 → FVec F S16 .f32),
    binary main_v33 main_v36 main_v37 (mulf : FVec F S16 .f32 → FVec F S16 .f32 → FVec F S16 .f32),
    nullary main_cst_11 (constant S_ .f32 0x00000000#32),
    binary main_v37 main_cst_11 main_v38 ((fun x v => Host.reduceAdd x v reducesTo_S16_S_d0 h_S_) : FVec F S16 .f32 → FVec F S_ .f32 → FVec F S_ .f32),
    nullary main_cst_12 (constant S_ .f32 0x41800000#32),
    binary main_v38 main_cst_12 main_v39 (Host.divf : FVec F S_ .f32 → FVec F S_ .f32 → FVec F S_ .f32),
    nullary main_cst_13 (constant S_ .f32 0x41800000#32),
    binary main_v39 main_cst_13 main_v40 (mulf : FVec F S_ .f32 → FVec F S_ .f32 → FVec F S_ .f32),
    nullary main_cst_14 (constant S_ .f32 0x41800000#32),
    binary main_v40 main_cst_14 main_v41 (mulf : FVec F S_ .f32 → FVec F S_ .f32 → FVec F S_ .f32) ]

/-- The operations that make the weights and the flags. -/
def opsE : List (HloOp τ sig (Elt F)) :=
  [ nullary main_cst_15 (constant S_ .f32 0x44000000#32),
    unary main_cst_15 main_v42 (broadcastInDim S4096x16 ![] bcast_S_S4096x16 : FVec F S_ .f32 → FVec F S4096x16 .f32),
    binary main_v23 main_v42 main_v43 (cmpf .olt : FVec F S4096x16 .f32 → FVec F S4096x16 .f32 → IVec S4096x16 1),
    unary main_v43 main_v44 (uitofp .f32 : IVec S4096x16 1 → FVec F S4096x16 .f32),
    binary main_v14 main_v44 main_v45 (mulf : FVec F S4096x16 .f32 → FVec F S4096x16 .f32 → FVec F S4096x16 .f32),
    nullary main_cst_16 (constant S_ .f32 0x44000000#32),
    unary main_cst_16 main_v46 (broadcastInDim S4096x16 ![] bcast_S_S4096x16 : FVec F S_ .f32 → FVec F S4096x16 .f32),
    binary main_v30 main_v46 main_v47 (cmpf .olt : FVec F S4096x16 .f32 → FVec F S4096x16 .f32 → IVec S4096x16 1),
    unary main_v47 main_v48 (uitofp .f32 : IVec S4096x16 1 → FVec F S4096x16 .f32),
    binary main_v20 main_v48 main_v49 (mulf : FVec F S4096x16 .f32 → FVec F S4096x16 .f32 → FVec F S4096x16 .f32),
    binary main_v12 main_v45 main_v50 (mulf : FVec F S4096x16 .f32 → FVec F S4096x16 .f32 → FVec F S4096x16 .f32),
    nullary main_cst_17 (constant S_ .f32 0x00000000#32),
    binary main_v50 main_cst_17 main_v51 ((fun x v => Host.reduceAdd x v reducesTo_S4096x16_S4096_d1 h_S_) : FVec F S4096x16 .f32 → FVec F S_ .f32 → FVec F S4096 .f32),
    binary main_v12 main_v49 main_v52 (mulf : FVec F S4096x16 .f32 → FVec F S4096x16 .f32 → FVec F S4096x16 .f32),
    nullary main_cst_18 (constant S_ .f32 0x00000000#32),
    binary main_v52 main_cst_18 main_v53 ((fun x v => Host.reduceAdd x v reducesTo_S4096x16_S4096_d1 h_S_) : FVec F S4096x16 .f32 → FVec F S_ .f32 → FVec F S4096 .f32),
    binary main_v51 main_v53 main_v54 (addf : FVec F S4096 .f32 → FVec F S4096 .f32 → FVec F S4096 .f32),
    nullary main_cst_19 (constant S_ .f32 0x34000000#32),
    TRef.unary (TRef.of (T := ⟨S_, .f32⟩) main_cst_19) (TRef.of (T := ⟨S_, .f32⟩) main_call7_v0) id,
    TRef.unary (TRef.of (T := ⟨S_, .f32⟩) main_call7_v0) (TRef.of (T := ⟨S4096, .f32⟩) main_call7_v1) (broadcastInDim S4096 ![] bcast_S_S4096),
    TRef.binary (TRef.of (T := ⟨S4096, .f32⟩) main_call7_v1) (TRef.of (T := ⟨S4096, .f32⟩) main_v54) (TRef.of (T := ⟨S4096, .f32⟩) main_v55) maximumf,
    binary main_v51 main_v55 main_v56 (Host.divf : FVec F S4096 .f32 → FVec F S4096 .f32 → FVec F S4096 .f32),
    binary main_v53 main_v55 main_v57 (Host.divf : FVec F S4096 .f32 → FVec F S4096 .f32 → FVec F S4096 .f32),
    binary main_v23 main_v45 main_v58 (mulf : FVec F S4096x16 .f32 → FVec F S4096x16 .f32 → FVec F S4096x16 .f32),
    nullary main_cst_20 (constant S_ .f32 0x00000000#32),
    binary main_v58 main_cst_20 main_v59 ((fun x v => Host.reduceAdd x v reducesTo_S4096x16_S4096_d1 h_S_) : FVec F S4096x16 .f32 → FVec F S_ .f32 → FVec F S4096 .f32),
    unary main_v59 main_v60 (fptosi 32 : FVec F S4096 .f32 → IVec S4096 32),
    binary main_v30 main_v49 main_v61 (mulf : FVec F S4096x16 .f32 → FVec F S4096x16 .f32 → FVec F S4096x16 .f32),
    nullary main_cst_21 (constant S_ .f32 0x00000000#32),
    binary main_v61 main_cst_21 main_v62 ((fun x v => Host.reduceAdd x v reducesTo_S4096x16_S4096_d1 h_S_) : FVec F S4096x16 .f32 → FVec F S_ .f32 → FVec F S4096 .f32),
    unary main_v62 main_v63 (fptosi 32 : FVec F S4096 .f32 → IVec S4096 32),
    unary main_v56 main_v64 (broadcastInDim S4096x1 ![0] bcast_S4096_S4096x1_0 : FVec F S4096 .f32 → FVec F S4096x1 .f32),
    unary main_v64 main_v65 (broadcastInDim S4096x16 ![0, 1] bcast_S4096x1_S4096x16_0_1 : FVec F S4096x1 .f32 → FVec F S4096x16 .f32),
    binary main_v65 main_v45 main_v66 (mulf : FVec F S4096x16 .f32 → FVec F S4096x16 .f32 → FVec F S4096x16 .f32),
    unary main_v57 main_v67 (broadcastInDim S4096x1 ![0] bcast_S4096_S4096x1_0 : FVec F S4096 .f32 → FVec F S4096x1 .f32),
    unary main_v67 main_v68 (broadcastInDim S4096x16 ![0, 1] bcast_S4096x1_S4096x16_0_1 : FVec F S4096x1 .f32 → FVec F S4096x16 .f32),
    binary main_v68 main_v49 main_v69 (mulf : FVec F S4096x16 .f32 → FVec F S4096x16 .f32 → FVec F S4096x16 .f32),
    TRef.unary (TRef.of (T := ⟨S4096, .i32⟩) main_v60) (TRef.of (T := ⟨S4096x1, .i32⟩) main_call8_v0) (broadcastInDim S4096x1 ![0] bcast_S4096_S4096x1_0),
    TRef.nullary (TRef.of (T := ⟨S1x512, .i32⟩) main_call8_v1) (iotaInDim S1x512 32 1),
    TRef.unary (TRef.of (T := ⟨S4096x1, .i32⟩) main_call8_v0) (TRef.of (T := ⟨S4096x512, .i32⟩) main_call8_v2) (broadcastInDim S4096x512 ![0, 1] bcast_S4096x1_S4096x512_0_1),
    TRef.unary (TRef.of (T := ⟨S1x512, .i32⟩) main_call8_v1) (TRef.of (T := ⟨S4096x512, .i32⟩) main_call8_v3) (broadcastInDim S4096x512 ![0, 1] bcast_S1x512_S4096x512_0_1),
    TRef.binary (TRef.of (T := ⟨S4096x512, .i32⟩) main_call8_v2) (TRef.of (T := ⟨S4096x512, .i32⟩) main_call8_v3) (TRef.of (T := ⟨S4096x512, .i1⟩) main_call8_v4) (cmpi .eq),
    TRef.unary (TRef.of (T := ⟨S4096x512, .i1⟩) main_call8_v4) (TRef.of (T := ⟨S4096x512, .f32⟩) main_v70) (uitofp .f32),
    TRef.unary (TRef.of (T := ⟨S4096, .i32⟩) main_v63) (TRef.of (T := ⟨S4096x1, .i32⟩) main_call9_v0) (broadcastInDim S4096x1 ![0] bcast_S4096_S4096x1_0),
    TRef.nullary (TRef.of (T := ⟨S1x512, .i32⟩) main_call9_v1) (iotaInDim S1x512 32 1),
    TRef.unary (TRef.of (T := ⟨S4096x1, .i32⟩) main_call9_v0) (TRef.of (T := ⟨S4096x512, .i32⟩) main_call9_v2) (broadcastInDim S4096x512 ![0, 1] bcast_S4096x1_S4096x512_0_1),
    TRef.unary (TRef.of (T := ⟨S1x512, .i32⟩) main_call9_v1) (TRef.of (T := ⟨S4096x512, .i32⟩) main_call9_v3) (broadcastInDim S4096x512 ![0, 1] bcast_S1x512_S4096x512_0_1),
    TRef.binary (TRef.of (T := ⟨S4096x512, .i32⟩) main_call9_v2) (TRef.of (T := ⟨S4096x512, .i32⟩) main_call9_v3) (TRef.of (T := ⟨S4096x512, .i1⟩) main_call9_v4) (cmpi .eq),
    TRef.unary (TRef.of (T := ⟨S4096x512, .i1⟩) main_call9_v4) (TRef.of (T := ⟨S4096x512, .f32⟩) main_v71) (uitofp .f32),
    unary main_v66 main_v72 (broadcastInDim S4096x16x1 ![0, 1] bcast_S4096x16_S4096x16x1_0_1 : FVec F S4096x16 .f32 → FVec F S4096x16x1 .f32),
    unary main_v70 main_v73 (broadcastInDim S4096x1x512 ![0, 2] bcast_S4096x512_S4096x1x512_0_2 : FVec F S4096x512 .f32 → FVec F S4096x1x512 .f32),
    unary main_v72 main_v74 (broadcastInDim S4096x16x512 ![0, 1, 2] bcast_S4096x16x1_S4096x16x512_0_1_2 : FVec F S4096x16x1 .f32 → FVec F S4096x16x512 .f32),
    unary main_v73 main_v75 (broadcastInDim S4096x16x512 ![0, 1, 2] bcast_S4096x1x512_S4096x16x512_0_1_2 : FVec F S4096x1x512 .f32 → FVec F S4096x16x512 .f32),
    binary main_v74 main_v75 main_v76 (mulf : FVec F S4096x16x512 .f32 → FVec F S4096x16x512 .f32 → FVec F S4096x16x512 .f32),
    unary main_v69 main_v77 (broadcastInDim S4096x16x1 ![0, 1] bcast_S4096x16_S4096x16x1_0_1 : FVec F S4096x16 .f32 → FVec F S4096x16x1 .f32),
    unary main_v71 main_v78 (broadcastInDim S4096x1x512 ![0, 2] bcast_S4096x512_S4096x1x512_0_2 : FVec F S4096x512 .f32 → FVec F S4096x1x512 .f32),
    unary main_v77 main_v79 (broadcastInDim S4096x16x512 ![0, 1, 2] bcast_S4096x16x1_S4096x16x512_0_1_2 : FVec F S4096x16x1 .f32 → FVec F S4096x16x512 .f32),
    unary main_v78 main_v80 (broadcastInDim S4096x16x512 ![0, 1, 2] bcast_S4096x1x512_S4096x16x512_0_1_2 : FVec F S4096x1x512 .f32 → FVec F S4096x16x512 .f32),
    binary main_v79 main_v80 main_v81 (mulf : FVec F S4096x16x512 .f32 → FVec F S4096x16x512 .f32 → FVec F S4096x16x512 .f32),
    binary main_v76 main_v81 main_v82 (addf : FVec F S4096x16x512 .f32 → FVec F S4096x16x512 .f32 → FVec F S4096x16x512 .f32),
    nullary main_cst_22 (constant S_ .f32 0x00000000#32),
    unary main_cst_22 main_v83 (broadcastInDim S4096x16x512 ![] bcast_S_S4096x16x512 : FVec F S_ .f32 → FVec F S4096x16x512 .f32),
    binary main_v82 main_v83 main_v84 (cmpf .une : FVec F S4096x16x512 .f32 → FVec F S4096x16x512 .f32 → IVec S4096x16x512 1),
    unary main_v84 main_v85 (id : IVec S4096x16x512 1 → IVec S4096x16x512 1) ]

/-- The whole program, as one list. -/
abbrev ops : List (HloOp τ sig (Elt F)) := opsA ++ (opsB ++ (opsC ++ (opsD ++ opsE)))

set_option maxRecDepth 8192 in
set_option maxHeartbeats 4000000 in
/-- The program is its list of operations, in order. -/
theorem main_eq (c : Dev nD) : main (F := F) c = seq ops := rfl

/-- No buffer is scoped. -/
theorem no_scoped_buffer : (Finset.univ.filter fun b : Ref sig .tc => b.isScoped) = ∅ := by decide
/-- No semaphore is scoped. -/
theorem no_scoped_counter : (Finset.univ.filter fun sm : SemLoc sig => sm.isScoped .tc) = ∅ := by decide

set_option maxRecDepth 8192 in
/-- Window A touches tensor buffers only. -/
theorem subA : (opsA : List (HloOp τ sig (Elt F))).Forall fun op => op.bufs ⊆ tcRefs τ sig := by
  unfold opsA
  exact ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
/-- Window B touches tensor buffers only. -/
theorem subB : (opsB : List (HloOp τ sig (Elt F))).Forall fun op => op.bufs ⊆ tcRefs τ sig := by
  unfold opsB
  exact ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., unary_bufs_sub .., nullary_bufs_sub .., unary_bufs_sub .., unary_bufs_sub .., ternary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩

set_option maxRecDepth 8192 in
/-- Window C touches tensor buffers only. -/
theorem subC : (opsC : List (HloOp τ sig (Elt F))).Forall fun op => op.bufs ⊆ tcRefs τ sig := by
  unfold opsC
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub ..⟩

set_option maxRecDepth 8192 in
/-- Window D touches tensor buffers only. -/
theorem subD : (opsD : List (HloOp τ sig (Elt F))).Forall fun op => op.bufs ⊆ tcRefs τ sig := by
  unfold opsD
  exact ⟨nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub ..⟩

set_option maxRecDepth 8192 in
/-- Window E touches tensor buffers only. -/
theorem subE : (opsE : List (HloOp τ sig (Elt F))).Forall fun op => op.bufs ⊆ tcRefs τ sig := by
  unfold opsE
  exact ⟨nullary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., binary_bufs_sub .., nullary_bufs_sub .., unary_bufs_sub .., unary_bufs_sub .., binary_bufs_sub .., binary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., nullary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub ..⟩

/-- Every operation touches tensor buffers only. -/
theorem sub_all : (ops : List (HloOp τ sig (Elt F))).Forall fun op => op.bufs ⊆ tcRefs τ sig := by
  simp only [ops, List.forall_append]
  exact ⟨subA, subB, subC, subD, subE⟩

variable (V : Valuation τ sig (Elt F))

set_option maxRecDepth 8192 in
set_option maxHeartbeats 4000000 in
/-- What window A leaves in `main_v1`. -/
theorem a_v1 : after opsA V (Proc.devRef .tc main_v1) = logits (V (Proc.devRef .tc main_arg0)) (V (Proc.devRef .tc main_arg1)) := by
  simp only [opsA, TRef.binary, TRef.nullary, TRef.quaternary, TRef.ternary, TRef.unary, TRef.toBuf, TRef.ofBuf, cast_eq]; after_results_simp <;> rfl
set_option maxRecDepth 8192 in
set_option maxHeartbeats 4000000 in
/-- What window A leaves in `main_v12`. -/
theorem a_v12 : after opsA V (Proc.devRef .tc main_v12) = gates (logits (V (Proc.devRef .tc main_arg0)) (V (Proc.devRef .tc main_arg1))) := by
  simp only [opsA, TRef.binary, TRef.nullary, TRef.quaternary, TRef.ternary, TRef.unary, TRef.toBuf, TRef.ofBuf, cast_eq]; after_results_simp <;> rfl
set_option maxRecDepth 8192 in
set_option maxHeartbeats 4000000 in
/-- Window A leaves `main_arg0` alone. -/
theorem a_keeps_arg0 : after opsA V (Proc.devRef .tc main_arg0) = V (Proc.devRef .tc main_arg0) := by
  simp only [opsA, TRef.binary, TRef.nullary, TRef.quaternary, TRef.ternary, TRef.unary, TRef.toBuf, TRef.ofBuf, cast_eq]; after_results_simp
set_option maxRecDepth 8192 in
set_option maxHeartbeats 4000000 in
/-- Window A leaves `main_arg1` alone. -/
theorem a_keeps_arg1 : after opsA V (Proc.devRef .tc main_arg1) = V (Proc.devRef .tc main_arg1) := by
  simp only [opsA, TRef.binary, TRef.nullary, TRef.quaternary, TRef.ternary, TRef.unary, TRef.toBuf, TRef.ofBuf, cast_eq]; after_results_simp

set_option maxRecDepth 8192 in
set_option maxHeartbeats 4000000 in
/-- What window B leaves in `main_v14`. -/
theorem b_v14 : after opsB V (Proc.devRef .tc main_v14) = hot (best (V (Proc.devRef .tc main_v12))) := by
  simp only [opsB, TRef.binary, TRef.nullary, TRef.quaternary, TRef.ternary, TRef.unary, TRef.toBuf, TRef.ofBuf, cast_eq]; after_results_simp <;> rfl
set_option maxRecDepth 8192 in
set_option maxHeartbeats 4000000 in
/-- What window B leaves in `main_v20`. -/
theorem b_v20 : after opsB V (Proc.devRef .tc main_v20) = hot (best (others (V (Proc.devRef .tc main_v1)) (hot (best (V (Proc.devRef .tc main_v12)))))) := by
  simp only [opsB, TRef.binary, TRef.nullary, TRef.quaternary, TRef.ternary, TRef.unary, TRef.toBuf, TRef.ofBuf, cast_eq]; after_results_simp <;> rfl
set_option maxRecDepth 8192 in
set_option maxHeartbeats 4000000 in
/-- Window B leaves `main_arg0` alone. -/
theorem b_keeps_arg0 : after opsB V (Proc.devRef .tc main_arg0) = V (Proc.devRef .tc main_arg0) := by
  simp only [opsB, TRef.binary, TRef.nullary, TRef.quaternary, TRef.ternary, TRef.unary, TRef.toBuf, TRef.ofBuf, cast_eq]; after_results_simp
set_option maxRecDepth 8192 in
set_option maxHeartbeats 4000000 in
/-- Window B leaves `main_arg1` alone. -/
theorem b_keeps_arg1 : after opsB V (Proc.devRef .tc main_arg1) = V (Proc.devRef .tc main_arg1) := by
  simp only [opsB, TRef.binary, TRef.nullary, TRef.quaternary, TRef.ternary, TRef.unary, TRef.toBuf, TRef.ofBuf, cast_eq]; after_results_simp
set_option maxRecDepth 8192 in
set_option maxHeartbeats 4000000 in
/-- Window B leaves `main_v12` alone. -/
theorem b_keeps_v12 : after opsB V (Proc.devRef .tc main_v12) = V (Proc.devRef .tc main_v12) := by
  simp only [opsB, TRef.binary, TRef.nullary, TRef.quaternary, TRef.ternary, TRef.unary, TRef.toBuf, TRef.ofBuf, cast_eq]; after_results_simp

set_option maxRecDepth 8192 in
set_option maxHeartbeats 4000000 in
/-- What window C leaves in `main_v23`. -/
theorem c_v23 : after opsC V (Proc.devRef .tc main_v23) = place1 (V (Proc.devRef .tc main_v14)) := by
  simp only [opsC, TRef.binary, TRef.nullary, TRef.quaternary, TRef.ternary, TRef.unary, TRef.toBuf, TRef.ofBuf, cast_eq]; after_results_simp <;> rfl
set_option maxRecDepth 8192 in
set_option maxHeartbeats 4000000 in
/-- What window C leaves in `main_v30`. -/
theorem c_v30 : after opsC V (Proc.devRef .tc main_v30) = place2 (V (Proc.devRef .tc main_v14)) (V (Proc.devRef .tc main_v20)) := by
  simp only [opsC, TRef.binary, TRef.nullary, TRef.quaternary, TRef.ternary, TRef.unary, TRef.toBuf, TRef.ofBuf, cast_eq]; after_results_simp <;> rfl
set_option maxRecDepth 8192 in
set_option maxHeartbeats 4000000 in
/-- Window C leaves `main_arg0` alone. -/
theorem c_keeps_arg0 : after opsC V (Proc.devRef .tc main_arg0) = V (Proc.devRef .tc main_arg0) := by
  simp only [opsC, TRef.binary, TRef.nullary, TRef.quaternary, TRef.ternary, TRef.unary, TRef.toBuf, TRef.ofBuf, cast_eq]; after_results_simp
set_option maxRecDepth 8192 in
set_option maxHeartbeats 4000000 in
/-- Window C leaves `main_arg1` alone. -/
theorem c_keeps_arg1 : after opsC V (Proc.devRef .tc main_arg1) = V (Proc.devRef .tc main_arg1) := by
  simp only [opsC, TRef.binary, TRef.nullary, TRef.quaternary, TRef.ternary, TRef.unary, TRef.toBuf, TRef.ofBuf, cast_eq]; after_results_simp
set_option maxRecDepth 8192 in
set_option maxHeartbeats 4000000 in
/-- Window C leaves `main_v12` alone. -/
theorem c_keeps_v12 : after opsC V (Proc.devRef .tc main_v12) = V (Proc.devRef .tc main_v12) := by
  simp only [opsC, TRef.binary, TRef.nullary, TRef.quaternary, TRef.ternary, TRef.unary, TRef.toBuf, TRef.ofBuf, cast_eq]; after_results_simp
set_option maxRecDepth 8192 in
set_option maxHeartbeats 4000000 in
/-- Window C leaves `main_v14` alone. -/
theorem c_keeps_v14 : after opsC V (Proc.devRef .tc main_v14) = V (Proc.devRef .tc main_v14) := by
  simp only [opsC, TRef.binary, TRef.nullary, TRef.quaternary, TRef.ternary, TRef.unary, TRef.toBuf, TRef.ofBuf, cast_eq]; after_results_simp
set_option maxRecDepth 8192 in
set_option maxHeartbeats 4000000 in
/-- Window C leaves `main_v20` alone. -/
theorem c_keeps_v20 : after opsC V (Proc.devRef .tc main_v20) = V (Proc.devRef .tc main_v20) := by
  simp only [opsC, TRef.binary, TRef.nullary, TRef.quaternary, TRef.ternary, TRef.unary, TRef.toBuf, TRef.ofBuf, cast_eq]; after_results_simp

set_option maxRecDepth 8192 in
set_option maxHeartbeats 4000000 in
/-- What window D leaves in `main_v41`. -/
theorem d_v41 : after opsD V (Proc.devRef .tc main_v41) = balance (V (Proc.devRef .tc main_v12)) (V (Proc.devRef .tc main_v14)) := by
  simp only [opsD, TRef.binary, TRef.nullary, TRef.quaternary, TRef.ternary, TRef.unary, TRef.toBuf, TRef.ofBuf, cast_eq]; after_results_simp <;> rfl
set_option maxRecDepth 8192 in
set_option maxHeartbeats 4000000 in
/-- Window D leaves `main_arg0` alone. -/
theorem d_keeps_arg0 : after opsD V (Proc.devRef .tc main_arg0) = V (Proc.devRef .tc main_arg0) := by
  simp only [opsD, TRef.binary, TRef.nullary, TRef.quaternary, TRef.ternary, TRef.unary, TRef.toBuf, TRef.ofBuf, cast_eq]; after_results_simp
set_option maxRecDepth 8192 in
set_option maxHeartbeats 4000000 in
/-- Window D leaves `main_arg1` alone. -/
theorem d_keeps_arg1 : after opsD V (Proc.devRef .tc main_arg1) = V (Proc.devRef .tc main_arg1) := by
  simp only [opsD, TRef.binary, TRef.nullary, TRef.quaternary, TRef.ternary, TRef.unary, TRef.toBuf, TRef.ofBuf, cast_eq]; after_results_simp
set_option maxRecDepth 8192 in
set_option maxHeartbeats 4000000 in
/-- Window D leaves `main_v12` alone. -/
theorem d_keeps_v12 : after opsD V (Proc.devRef .tc main_v12) = V (Proc.devRef .tc main_v12) := by
  simp only [opsD, TRef.binary, TRef.nullary, TRef.quaternary, TRef.ternary, TRef.unary, TRef.toBuf, TRef.ofBuf, cast_eq]; after_results_simp
set_option maxRecDepth 8192 in
set_option maxHeartbeats 4000000 in
/-- Window D leaves `main_v14` alone. -/
theorem d_keeps_v14 : after opsD V (Proc.devRef .tc main_v14) = V (Proc.devRef .tc main_v14) := by
  simp only [opsD, TRef.binary, TRef.nullary, TRef.quaternary, TRef.ternary, TRef.unary, TRef.toBuf, TRef.ofBuf, cast_eq]; after_results_simp
set_option maxRecDepth 8192 in
set_option maxHeartbeats 4000000 in
/-- Window D leaves `main_v20` alone. -/
theorem d_keeps_v20 : after opsD V (Proc.devRef .tc main_v20) = V (Proc.devRef .tc main_v20) := by
  simp only [opsD, TRef.binary, TRef.nullary, TRef.quaternary, TRef.ternary, TRef.unary, TRef.toBuf, TRef.ofBuf, cast_eq]; after_results_simp
set_option maxRecDepth 8192 in
set_option maxHeartbeats 4000000 in
/-- Window D leaves `main_v23` alone. -/
theorem d_keeps_v23 : after opsD V (Proc.devRef .tc main_v23) = V (Proc.devRef .tc main_v23) := by
  simp only [opsD, TRef.binary, TRef.nullary, TRef.quaternary, TRef.ternary, TRef.unary, TRef.toBuf, TRef.ofBuf, cast_eq]; after_results_simp
set_option maxRecDepth 8192 in
set_option maxHeartbeats 4000000 in
/-- Window D leaves `main_v30` alone. -/
theorem d_keeps_v30 : after opsD V (Proc.devRef .tc main_v30) = V (Proc.devRef .tc main_v30) := by
  simp only [opsD, TRef.binary, TRef.nullary, TRef.quaternary, TRef.ternary, TRef.unary, TRef.toBuf, TRef.ofBuf, cast_eq]; after_results_simp

set_option maxRecDepth 8192 in
set_option maxHeartbeats 4000000 in
/-- What window E leaves in `main_v82`. -/
theorem e_v82 : after opsE V (Proc.devRef .tc main_v82) = combine (V (Proc.devRef .tc main_v12)) (kept (V (Proc.devRef .tc main_v23)) (V (Proc.devRef .tc main_v14))) (kept (V (Proc.devRef .tc main_v30)) (V (Proc.devRef .tc main_v20))) (V (Proc.devRef .tc main_v23)) (V (Proc.devRef .tc main_v30)) := by
  simp only [opsE, TRef.binary, TRef.nullary, TRef.quaternary, TRef.ternary, TRef.unary, TRef.toBuf, TRef.ofBuf, cast_eq]; after_results_simp <;> rfl
set_option maxRecDepth 8192 in
set_option maxHeartbeats 4000000 in
/-- What window E leaves in `main_v85`. -/
theorem e_v85 : after opsE V (Proc.devRef .tc main_v85) = flags (combine (V (Proc.devRef .tc main_v12)) (kept (V (Proc.devRef .tc main_v23)) (V (Proc.devRef .tc main_v14))) (kept (V (Proc.devRef .tc main_v30)) (V (Proc.devRef .tc main_v20))) (V (Proc.devRef .tc main_v23)) (V (Proc.devRef .tc main_v30))) := by
  simp only [opsE, TRef.binary, TRef.nullary, TRef.quaternary, TRef.ternary, TRef.unary, TRef.toBuf, TRef.ofBuf, cast_eq]; after_results_simp <;> rfl
set_option maxRecDepth 8192 in
set_option maxHeartbeats 4000000 in
/-- Window E leaves `main_arg0` alone. -/
theorem e_keeps_arg0 : after opsE V (Proc.devRef .tc main_arg0) = V (Proc.devRef .tc main_arg0) := by
  simp only [opsE, TRef.binary, TRef.nullary, TRef.quaternary, TRef.ternary, TRef.unary, TRef.toBuf, TRef.ofBuf, cast_eq]; after_results_simp
set_option maxRecDepth 8192 in
set_option maxHeartbeats 4000000 in
/-- Window E leaves `main_arg1` alone. -/
theorem e_keeps_arg1 : after opsE V (Proc.devRef .tc main_arg1) = V (Proc.devRef .tc main_arg1) := by
  simp only [opsE, TRef.binary, TRef.nullary, TRef.quaternary, TRef.ternary, TRef.unary, TRef.toBuf, TRef.ofBuf, cast_eq]; after_results_simp
set_option maxRecDepth 8192 in
set_option maxHeartbeats 4000000 in
/-- Window E leaves `main_v41` alone. -/
theorem e_keeps_v41 : after opsE V (Proc.devRef .tc main_v41) = V (Proc.devRef .tc main_v41) := by
  simp only [opsE, TRef.binary, TRef.nullary, TRef.quaternary, TRef.ternary, TRef.unary, TRef.toBuf, TRef.ofBuf, cast_eq]; after_results_simp

end Cert.ReferenceIdeal.Line

end
-- ==== Proof.RefRun.lean ====
module

public import proofs.«01_k».proof.Proof.RefLine
public import Idealize.ShloMosaic.Lib.Pipeline.Frame

@[expose] public section

noncomputable section

namespace Cert.ReferenceIdeal.Line

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

section
variable (x : FVec F S4096x4096 .f32) (w : FVec F S16x4096 .f32)

/-- The gates of the arguments. -/
def G : FVec F S4096x16 .f32 := gates (logits x w)
/-- The first choices, as one-hot rows. -/
def M1 : FVec F S4096x16 .f32 := hot (best (G x w))
/-- The second choices, as one-hot rows. -/
def M2 : FVec F S4096x16 .f32 := hot (best (others (logits x w) (M1 x w)))
/-- The places of the first choices. -/
def P1 : FVec F S4096x16 .f32 := place1 (M1 x w)
/-- The places of the second choices. -/
def P2 : FVec F S4096x16 .f32 := place2 (M1 x w) (M2 x w)
/-- The first result: the balance term. -/
def out0 : FVec F S_ .f32 := balance (G x w) (M1 x w)
/-- The second result: the combining weights. -/
def out1 : FVec F S4096x16x512 .f32 := combine (G x w) (kept (P1 x w) (M1 x w)) (kept (P2 x w) (M2 x w)) (P1 x w) (P2 x w)
/-- The third result: the dispatch flags. -/
def out2 : IVec S4096x16x512 1 := flags (out1 x w)
end

section
variable (m : (ℓ : Loc nD τ sig) → Buf (Elt F) ℓ) (c : Dev nD)

/-- The windows run one after the other. -/
theorem after_ops (V : Valuation τ sig (Elt F)) : after ops V = after opsE (after opsD (after opsC (after opsB (after opsA V)))) := by
  rw [after_append, after_append, after_append, after_append]

/-- The contents after the first window, as launched. -/
abbrev VA : Valuation τ sig (Elt F) := after opsA (launchContents m c)
/-- The buffers after the second stage. -/
abbrev VB : Valuation τ sig (Elt F) := after opsB (VA m c)
/-- The buffers after the third stage. -/
abbrev VC : Valuation τ sig (Elt F) := after opsC (VB m c)
/-- The buffers after the fourth stage. -/
abbrev VD : Valuation τ sig (Elt F) := after opsD (VC m c)

/-- The first argument ends as launched. -/
theorem arg0_eq : after ops (launchContents m c) (Proc.devRef .tc main_arg0) = m ((c.tc : Thread nD τ).loc main_arg0) := by
  rw [after_ops]; exact ((e_keeps_arg0 _).trans ((d_keeps_arg0 _).trans ((c_keeps_arg0 _).trans ((b_keeps_arg0 _).trans (a_keeps_arg0 _)))))
/-- The second argument ends as launched. -/
theorem arg1_eq : after ops (launchContents m c) (Proc.devRef .tc main_arg1) = m ((c.tc : Thread nD τ).loc main_arg1) := by
  rw [after_ops]; exact ((e_keeps_arg1 _).trans ((d_keeps_arg1 _).trans ((c_keeps_arg1 _).trans ((b_keeps_arg1 _).trans (a_keeps_arg1 _)))))

/-- The tokens of the launch. -/
abbrev X : FVec F S4096x4096 .f32 := m ((c.tc : Thread nD τ).loc main_arg0)
/-- The expert rows of the launch. -/
abbrev W : FVec F S16x4096 .f32 := m ((c.tc : Thread nD τ).loc main_arg1)

/-- After the first stage the logits are computed. -/
theorem l_A : VA m c (Proc.devRef .tc main_v1) = logits (X m c) (W m c) := a_v1 _
/-- After the first stage the gates are computed. -/
theorem g_A : VA m c (Proc.devRef .tc main_v12) = G (X m c) (W m c) := a_v12 _
/-- The second stage keeps the gates. -/
theorem g_B : VB m c (Proc.devRef .tc main_v12) = G (X m c) (W m c) := (b_keeps_v12 _).trans (g_A m c)
/-- After the second stage the first choices are marked. -/
theorem m1_B : VB m c (Proc.devRef .tc main_v14) = M1 (X m c) (W m c) := (b_v14 _).trans (congrArg (fun g => hot (best g)) (g_A m c))
/-- After the second stage the second choices are marked. -/
theorem m2_B : VB m c (Proc.devRef .tc main_v20) = M2 (X m c) (W m c) :=
  (b_v20 _).trans (congrArg₂ (fun l g => hot (best (others l (hot (best g))))) (l_A m c) (g_A m c))
/-- The third stage keeps the gates. -/
theorem g_C : VC m c (Proc.devRef .tc main_v12) = G (X m c) (W m c) := (c_keeps_v12 _).trans (g_B m c)
/-- The third stage keeps the first choices. -/
theorem m1_C : VC m c (Proc.devRef .tc main_v14) = M1 (X m c) (W m c) := (c_keeps_v14 _).trans (m1_B m c)
/-- The third stage keeps the second choices. -/
theorem m2_C : VC m c (Proc.devRef .tc main_v20) = M2 (X m c) (W m c) := (c_keeps_v20 _).trans (m2_B m c)
/-- After the third stage the places of the first choices are counted. -/
theorem p1_C : VC m c (Proc.devRef .tc main_v23) = P1 (X m c) (W m c) := (c_v23 _).trans (congrArg place1 (m1_B m c))
/-- After the third stage the places of the second choices are counted. -/
theorem p2_C : VC m c (Proc.devRef .tc main_v30) = P2 (X m c) (W m c) := (c_v30 _).trans (congrArg₂ place2 (m1_B m c) (m2_B m c))
/-- The fourth stage keeps the gates. -/
theorem g_D : VD m c (Proc.devRef .tc main_v12) = G (X m c) (W m c) := (d_keeps_v12 _).trans (g_C m c)
/-- The fourth stage keeps the first choices. -/
theorem m1_D : VD m c (Proc.devRef .tc main_v14) = M1 (X m c) (W m c) := (d_keeps_v14 _).trans (m1_C m c)
/-- The fourth stage keeps the second choices. -/
theorem m2_D : VD m c (Proc.devRef .tc main_v20) = M2 (X m c) (W m c) := (d_keeps_v20 _).trans (m2_C m c)
/-- The fourth stage keeps the places of the first choices. -/
theorem p1_D : VD m c (Proc.devRef .tc main_v23) = P1 (X m c) (W m c) := (d_keeps_v23 _).trans (p1_C m c)
/-- The fourth stage keeps the places of the second choices. -/
theorem p2_D : VD m c (Proc.devRef .tc main_v30) = P2 (X m c) (W m c) := (d_keeps_v30 _).trans (p2_C m c)

/-- The first result's buffer. -/
theorem v41_eq : after ops (launchContents m c) (Proc.devRef .tc main_v41) = out0 (X m c) (W m c) := by
  rw [after_ops]
  exact ((e_keeps_v41 _).trans (d_v41 _)).trans (congrArg₂ balance (g_C m c) (m1_C m c))
/-- The weights after the last window. -/
theorem mix_eq : combine (VD m c (Proc.devRef .tc main_v12)) (kept (VD m c (Proc.devRef .tc main_v23)) (VD m c (Proc.devRef .tc main_v14)))
    (kept (VD m c (Proc.devRef .tc main_v30)) (VD m c (Proc.devRef .tc main_v20))) (VD m c (Proc.devRef .tc main_v23)) (VD m c (Proc.devRef .tc main_v30))
    = out1 (X m c) (W m c) := by
  rw [g_D, m1_D, m2_D, p1_D, p2_D]; rfl
/-- The second result's buffer. -/
theorem v82_eq : after ops (launchContents m c) (Proc.devRef .tc main_v82) = out1 (X m c) (W m c) := by
  rw [after_ops]; exact (e_v82 _).trans (mix_eq m c)
/-- The third result's buffer. -/
theorem v85_eq : after ops (launchContents m c) (Proc.devRef .tc main_v85) = out2 (X m c) (W m c) := by
  rw [after_ops]; exact (e_v85 _).trans (congrArg flags (mix_eq m c))
end

/-- From any memory with zero counters the reference terminates with its three results and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = out0 (m ((c.tc : Thread nD τ).loc main_arg0)) (m ((c.tc : Thread nD τ).loc main_arg1))
      ∧ r.2.mem ((c.tc : Thread nD τ).loc main_v82) = out1 (m ((c.tc : Thread nD τ).loc main_arg0)) (m ((c.tc : Thread nD τ).loc main_arg1))
      ∧ r.2.mem ((c.tc : Thread nD τ).loc main_v85) = out2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (v41_eq m c), (h c main_v82).trans (v82_eq m c), (h c main_v85).trans (v85_eq m c),
      (h c main_arg0).trans (arg0_eq m c), (h c main_arg1).trans (arg1_eq m c)⟩)
    (run_seq no_scoped_buffer no_scoped_counter defs main (fun _ => ops) main_eq (fun _ => sub_all) m ρ)

end Cert.ReferenceIdeal.Line

end
-- ==== Proof.Choice.lean ====
module

public import Idealize.ShloMosaic.Lib.Pointwise
public import Idealize.ShloMosaic.Lib.IdealHost
public import Idealize.ShloMosaic.PureOps.Ideal.Laws

@[expose] public section

set_option maxRecDepth 16384

noncomputable section

namespace Cert.Moe

open Idealize.ShloMosaic

/-! ## The first largest of sixteen values -/

/-- Index `e` holds the largest value, and no index before it does. -/
def IsFirst (f : Fin 16 → EReal) (e : Fin 16) : Prop := (∀ k, f k ≤ f e) ∧ ∀ k, k < e → f k < f e

/-- There is such an index. -/
theorem exists_first (f : Fin 16 → EReal) : ∃ e, IsFirst f e := by
  obtain ⟨a, -, ha⟩ := Finset.exists_max_image Finset.univ f ⟨0, Finset.mem_univ _⟩
  obtain ⟨e, he, hmin⟩ := Finset.exists_min_image (Finset.univ.filter fun k => f k = f a) (fun k => k) ⟨a, by simp⟩
  rw [Finset.mem_filter] at he
  refine ⟨e, fun k => he.2 ▸ ha k (Finset.mem_univ _), fun k hk => lt_of_le_of_ne (he.2 ▸ ha k (Finset.mem_univ _)) fun h => ?_⟩
  exact absurd (hmin k (Finset.mem_filter.2 ⟨Finset.mem_univ _, h.trans he.2⟩)) (not_le.2 hk)

/-- The first index of the largest value. -/
def first (f : Fin 16 → EReal) : Fin 16 := (exists_first f).choose

/-- It holds the largest value, and no index before it does. -/
theorem first_spec (f : Fin 16 → EReal) : IsFirst f (first f) := (exists_first f).choose_spec

/-- Any index with that property is the first one. -/
theorem IsFirst.eq {f : Fin 16 → EReal} {a b : Fin 16} (ha : IsFirst f a) (hb : IsFirst f b) : a = b := by
  rcases lt_trichotomy a b with h | h | h
  · exact absurd (hb.2 a h) (not_lt.2 (ha.1 b))
  · exact h
  · exact absurd (ha.2 b h) (not_lt.2 (hb.1 a))

/-- Two rows ordered alike have the same first largest index. -/
theorem first_congr {f g : Fin 16 → EReal} (h : ∀ a b, f a < f b ↔ g a < g b) : first f = first g := by
  refine IsFirst.eq (first_spec f) ⟨fun k => ?_, fun k hk => ?_⟩
  · exact not_lt.1 fun hlt => not_lt.2 ((first_spec g).1 k) ((h _ _).1 hlt)
  · exact (h _ _).2 ((first_spec g).2 k hk)

/-- The largest value, as a fold from minus infinity. -/
def peak (f : Fin 16 → EReal) : EReal := Finset.univ.fold max ⊥ f

/-- It is the value at the first largest index. -/
theorem peak_eq (f : Fin 16 → EReal) : peak f = f (first f) := by
  refine le_antisymm ?_ ?_
  · exact (Finset.fold_max_le _).2 ⟨bot_le, fun k _ => (first_spec f).1 k⟩
  · exact (Finset.le_fold_max _).2 (Or.inr ⟨first f, Finset.mem_univ _, le_rfl⟩)

/-- The value holds the row's peak exactly when it is largest. -/
theorem eq_peak_iff (f : Fin 16 → EReal) (k : Fin 16) : f k = peak f ↔ ∀ a, f a ≤ f k := by
  rw [peak_eq]
  exact ⟨fun h a => h ▸ (first_spec f).1 a, fun h => le_antisymm ((first_spec f).1 k) (h _)⟩

/-! ## The words that hold it -/

/-- A small number's word, read signed, is the number. -/
theorem toInt_small {n : ℕ} (h : n < 16) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-- The signed minimum of two words, read signed, is the minimum of their readings. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The least index among those that hold the peak, found by a signed minimum over words, is the first largest index. -/
theorem word_first (f : Fin 16 → EReal) :
    Finset.univ.fold IntOp.minsi (2147483647#32) (fun k : Fin 16 => if f k = peak f then BitVec.ofNat 32 k.val else 1000000000#32)
      = BitVec.ofNat 32 (first f).val := by
  apply BitVec.eq_of_toInt_eq
  rw [← Finset.fold_hom (op' := min) (m := BitVec.toInt) (fun a b => toInt_minsi a b), toInt_small (first f).isLt]
  refine le_antisymm ?_ ?_
  · refine (Finset.fold_min_le _).2 (Or.inr ⟨first f, Finset.mem_univ _, ?_⟩)
    rw [if_pos (peak_eq f).symm, toInt_small (first f).isLt]
  · refine (Finset.le_fold_min _).2 ⟨?_, fun k _ => ?_⟩
    · have := (first f).isLt
      have e : (2147483647#32).toInt = 2147483647 := by decide
      rw [e]; omega
    · by_cases h : f k = peak f
      · rw [if_pos h, toInt_small k.isLt]
        by_contra hlt
        have hlt' : k < first f := by
          have : (k.val : ℤ) < ((first f).val : ℤ) := not_le.1 hlt
          exact Fin.lt_def.2 (by exact_mod_cast this)
        have := (first_spec f).2 k hlt'
        rw [h, peak_eq] at this
        exact lt_irrefl _ this
      · rw [if_neg h]
        have := (first f).isLt
        have e : (1000000000#32).toInt = 1000000000 := by decide
        rw [e]; omega

/-- Words of two small numbers are equal when the numbers are. -/
theorem ofNat_inj16 (a b : Fin 16) : BitVec.ofNat 32 a.val = BitVec.ofNat 32 b.val ↔ a = b := by
  constructor
  · intro h
    have h' := congrArg BitVec.toInt h
    rw [toInt_small a.isLt, toInt_small b.isLt] at h'
    exact Fin.ext (by exact_mod_cast h')
  · rintro rfl; rfl

/-- One where a proposition holds, zero elsewhere. -/
def ind (p : Prop) [Decidable p] : EReal := if p then 1 else 0

/-- Comparing two words for equality and reading the bit as an unsigned number gives one or zero. -/
theorem uitofp_eq {w : ℕ} (a b : BitVec w) : FloatOps.uitofp (F := Ideal) FTy.f32 (IntOp.cmpi .eq a b) = ind (a = b) := by
  show ((((IntOp.cmpi .eq a b).toNat : ℝ)) : EReal) = _
  unfold IntOp.cmpi ind
  by_cases h : a = b
  · simp [h]
  · simp [h, beq_eq_false_iff_ne.2 h]

/-- A bit read as an unsigned number is one or zero. -/
theorem uitofp_ofBool (p : Prop) [Decidable p] : FloatOps.uitofp (F := Ideal) FTy.f32 (BitVec.ofBool (decide p)) = ind p := by
  show ((((BitVec.ofBool (decide p)).toNat : ℝ)) : EReal) = _
  unfold ind
  by_cases h : p <;> simp [h]

/-- Comparing two words for equality, widening the bit and reading it as a signed number gives one or zero. -/
theorem sitofp_eq {w : ℕ} (a b : BitVec w) : FloatOps.sitofp (F := Ideal) FTy.f32 (BitVec.setWidth 32 (IntOp.cmpi .eq a b)) = ind (a = b) := by
  show ((((BitVec.setWidth 32 (IntOp.cmpi .eq a b)).toInt : ℝ)) : EReal) = _
  unfold IntOp.cmpi ind
  by_cases h : a = b
  · simp [h]
  · simp [h, beq_eq_false_iff_ne.2 h]

/-- The same for "not below" on two small words. -/
theorem sitofp_sge {a b : ℕ} (ha : a < 512) (hb : b < 512) :
    FloatOps.sitofp (F := Ideal) FTy.f32 (BitVec.setWidth 32 (IntOp.cmpi .sge (BitVec.ofNat 32 a) (BitVec.ofNat 32 b))) = ind (b ≤ a) := by
  have t : ∀ n : ℕ, n < 512 → (BitVec.ofNat 32 n).toInt = (n : ℤ) := fun n h => by
    rw [BitVec.toInt_eq_toNat_of_lt (by rw [BitVec.toNat_ofNat, Nat.mod_eq_of_lt (by omega)]; omega), BitVec.toNat_ofNat, Nat.mod_eq_of_lt (by omega)]
  have hs : (BitVec.ofNat 32 b).sle (BitVec.ofNat 32 a) = decide (b ≤ a) := by
    unfold BitVec.sle
    rw [t a ha, t b hb]
    exact decide_eq_decide.2 (by omega)
  show ((((BitVec.setWidth 32 (IntOp.cmpi .sge (BitVec.ofNat 32 a) (BitVec.ofNat 32 b))).toInt : ℝ)) : EReal) = _
  unfold IntOp.cmpi ind
  dsimp only
  rw [hs]
  by_cases h : b ≤ a <;> simp [h]

/-- Choosing by an equality of words. -/
theorem select_eq {α : Type} {w : ℕ} (a b : BitVec w) (x y : α) : Scalar.select (IntOp.cmpi .eq a b) x y = if a = b then x else y := by
  unfold Scalar.select IntOp.cmpi
  by_cases h : a = b
  · simp [h]
  · simp [h, beq_eq_false_iff_ne.2 h]

/-- The pattern of minus infinity. -/
theorem ofBits_neg_inf : Ideal.ofBits .f32 4286578688#32 = ⊥ := by
  simp [Ideal.ofBits, Ideal.ieee]

/-- The pattern of 4096. -/
theorem ofBits_4096 : Ideal.ofBits .f32 1166016512#32 = ((4096 : ℝ) : EReal) := by
  simp [Ideal.ofBits, Ideal.ieee, -EReal.coe_mul]; norm_num

/-- The pattern of 1/4096. -/
theorem ofBits_inv4096 : Ideal.ofBits .f32 964689920#32 = ((1 / 4096 : ℝ) : EReal) := by
  simp [Ideal.ofBits, Ideal.ieee, -EReal.coe_mul]; norm_num

/-- The pattern of 16. -/
theorem ofBits_16 : Ideal.ofBits .f32 1098907648#32 = ((16 : ℝ) : EReal) := by
  simp [Ideal.ofBits, Ideal.ieee, -EReal.coe_mul]; norm_num

/-- The small constant is above zero. -/
theorem ofBits_eps_pos : 0 < Ideal.ofBits .f32 872415232#32 := by
  have h : Ideal.ofBits .f32 872415232#32 = ((1 / 8388608 : ℝ) : EReal) := by
    simp [Ideal.ofBits, Ideal.ieee, -EReal.coe_mul]; norm_num
  rw [h]
  exact EReal.coe_pos.2 (by norm_num)

/-! ## The gates of a row -/

/-- The gate of an expert: its exponential, less the peak, over the row's sum of them. -/
def gate (f : Fin 16 → EReal) (e : Fin 16) : EReal := Ideal.div (Ideal.exp (f e - peak f)) (∑ k, Ideal.exp (f k - peak f))

/-- A sum of real numbers among the extended ones. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- For a row of real numbers the gates are positive real numbers ordered as the row is. -/
theorem gate_real {f : Fin 16 → EReal} (hf : ∀ e, ∃ r : ℝ, f e = (r : EReal)) :
    ∃ h : Fin 16 → ℝ, (∀ e, gate f e = (h e : EReal)) ∧ (∀ e, 0 < h e) ∧ ∀ a b, gate f a < gate f b ↔ f a < f b := by
  choose r hr using hf
  have hS : 0 < ∑ k, Real.exp (r k - r (first f)) := Finset.sum_pos (fun k _ => Real.exp_pos _) ⟨0, Finset.mem_univ _⟩
  have e : ∀ k, Ideal.exp (f k - peak f) = ((Real.exp (r k - r (first f)) : ℝ) : EReal) := fun k => by
    rw [peak_eq, hr, hr, ← EReal.coe_sub, Ideal.exp_coe]
  have g : ∀ k, gate f k = ((Real.exp (r k - r (first f)) * (1 / ∑ k, Real.exp (r k - r (first f))) : ℝ) : EReal) := fun k => by
    unfold gate
    rw [e, Finset.sum_congr rfl fun k _ => e k, ← coe_sum, Ideal.div_coe hS.ne', ← EReal.coe_mul]
  refine ⟨_, g, fun k => mul_pos (Real.exp_pos _) (one_div_pos.2 hS), fun a b => ?_⟩
  rw [g, g, hr a, hr b, EReal.coe_lt_coe_iff, EReal.coe_lt_coe_iff, mul_lt_mul_iff_left₀ (one_div_pos.2 hS), Real.exp_lt_exp]
  constructor <;> intro h <;> linarith

/-- For a row of real numbers the gates have their first largest where the row has. -/
theorem first_gate {f : Fin 16 → EReal} (hf : ∀ e, ∃ r : ℝ, f e = (r : EReal)) : first (gate f) = first f := by
  obtain ⟨h, -, -, hlt⟩ := gate_real hf
  exact first_congr hlt

/-- For a row of real numbers the gates are not negative. -/
theorem gate_nonneg {f : Fin 16 → EReal} (hf : ∀ e, ∃ r : ℝ, f e = (r : EReal)) (e : Fin 16) : 0 ≤ gate f e := by
  obtain ⟨h, hg, hp, -⟩ := gate_real hf
  rw [hg]; exact EReal.coe_nonneg.2 (hp e).le

/-- The row with its first largest struck out. -/
def rest (f : Fin 16 → EReal) (e : Fin 16) : EReal := if e = first f then ⊥ else f e

/-- The second choice of a row of real numbers is not the first. -/
theorem second_ne {f : Fin 16 → EReal} (hf : ∀ e, ∃ r : ℝ, f e = (r : EReal)) : first (rest f) ≠ first f := by
  intro h
  obtain ⟨k, hk⟩ : ∃ k : Fin 16, k ≠ first f := ⟨first f + 1, by simp⟩
  have := (first_spec (rest f)).1 k
  obtain ⟨r, hr⟩ := hf k
  rw [h] at this
  unfold rest at this
  rw [if_neg hk, if_pos rfl, hr, le_bot_iff] at this
  exact EReal.coe_ne_bot r this

end Cert.Moe

end
-- ==== Proof.Counts.lean ====
module

public import proofs.«01_k».proof.Proof.Choice
public import Mathlib.Algebra.BigOperators.Fin

@[expose] public section

set_option maxRecDepth 16384

noncomputable section

namespace Cert.Moe

open Idealize.ShloMosaic

/-- A table of 4096 rows and 16 columns. -/
abbrev Tab := Fin 4096 → Fin 16 → EReal

/-- A table's entry at any row number, zero past the last row. -/
def at0 (m : Tab) (e : Fin 16) (i : ℕ) : EReal := if h : i < 4096 then m ⟨i, h⟩ e else 0

/-- Inside the table it is the entry. -/
theorem at0_lt (m : Tab) (e : Fin 16) {i : ℕ} (h : i < 4096) : at0 m e i = m ⟨i, h⟩ e := dif_pos h

/-- The sum of the first `n` entries of a column. -/
def colN (m : Tab) (n : ℕ) (e : Fin 16) : EReal := ∑ i ∈ Finset.range n, at0 m e i

/-- No entries, no sum. -/
theorem colN_zero (m : Tab) (e : Fin 16) : colN m 0 e = 0 := Finset.sum_range_zero _

/-- The sum of a whole column. -/
theorem colN_all (m : Tab) (e : Fin 16) : colN m 4096 e = ∑ r, m r e := by
  unfold colN
  rw [← Fin.sum_univ_eq_sum_range]
  exact Finset.sum_congr rfl fun r _ => at0_lt m e r.isLt

/-- A block's worth of further entries adds the block's column sum. -/
theorem colN_block (m : Tab) (k : ℕ) (e : Fin 16) : colN m (512 * k) e + ∑ x : Fin 512, at0 m e (512 * k + x.val) = colN m (512 * (k + 1)) e := by
  unfold colN
  rw [Fin.sum_univ_eq_sum_range (fun n => at0 m e (512 * k + n)), ← Finset.sum_range_add]
  rfl

/-- Adding up the entries of a block down to one of its rows. -/
theorem sum_upto (g : ℕ → EReal) (r : Fin 512) : ∑ x : Fin 512, ind (x.val ≤ r.val) * g x.val = ∑ n ∈ Finset.range (r.val + 1), g n := by
  rw [Fin.sum_univ_eq_sum_range (fun n => ind (n ≤ r.val) * g n)]
  obtain ⟨r, hr⟩ := r
  dsimp only
  refine (congrArg (fun N => ∑ n ∈ Finset.range N, ind (n ≤ r) * g n) (show (512 : ℕ) = (r + 1) + (511 - r) by omega)).trans ?_
  rw [Finset.sum_range_add, Finset.sum_eq_zero (s := Finset.range (511 - r)), add_zero]
  · refine Finset.sum_congr rfl fun n hn => ?_
    rw [ind, if_pos (by rw [Finset.mem_range] at hn; omega), one_mul]
  · intro n _
    rw [ind, if_neg (by omega), zero_mul]

/-- The entries of earlier blocks, and those of this block down to a row, are the entries down to that row. -/
theorem colN_row (m : Tab) (k : ℕ) (r : Fin 512) (e : Fin 16) :
    ∑ x : Fin 512, ind (x.val ≤ r.val) * at0 m e (512 * k + x.val) - 1 + colN m (512 * k) e = colN m (512 * k + r.val + 1) e - 1 := by
  rw [sum_upto (fun n => at0 m e (512 * k + n)), sub_eq_add_neg, sub_eq_add_neg, add_right_comm]
  congr 1
  unfold colN
  rw [add_comm, ← Finset.sum_range_add]
  rfl

/-- The window sum of the reference: entries down to a row. -/
theorem sum_window (g : ℕ → EReal) (r : Fin 4096) :
    ∑ a : Fin 4096, (if 4095 ≤ r.val + a.val then g (r.val + a.val - 4095) else 0) = ∑ n ∈ Finset.range (r.val + 1), g n := by
  rw [Fin.sum_univ_eq_sum_range (fun n => if 4095 ≤ r.val + n then g (r.val + n - 4095) else 0)]
  obtain ⟨r, hr⟩ := r
  dsimp only
  refine (congrArg (fun N => ∑ n ∈ Finset.range N, if 4095 ≤ r + n then g (r + n - 4095) else 0) (show (4096 : ℕ) = (4095 - r) + (r + 1) by omega)).trans ?_
  rw [Finset.sum_range_add, Finset.sum_eq_zero (s := Finset.range (4095 - r)), zero_add]
  · refine Finset.sum_congr rfl fun n hn => ?_
    rw [if_pos (by omega)]
    exact congrArg g (by omega)
  · intro n hn
    rw [Finset.mem_range] at hn
    rw [if_neg (by omega)]

/-- The first choices of a table of logits, as one-hot rows. -/
def hot1 (L : Tab) : Tab := fun r e => ind (e = first (L r))
/-- The second choices. -/
def hot2 (L : Tab) : Tab := fun r e => ind (e = first (rest (L r)))
/-- The gates. -/
def gateT (L : Tab) : Tab := fun r e => gate (L r) e
/-- The place of each first choice. -/
def pl1 (L : Tab) : Tab := fun r e => colN (hot1 L) (r.val + 1) e - 1
/-- The place of each second choice among the second choices. -/
def pl2 (L : Tab) : Tab := fun r e => colN (hot2 L) (r.val + 1) e - 1

end Cert.Moe

end
-- ==== Proof.Row.lean ====
module

public import proofs.«01_k».proof.Proof.Choice

@[expose] public section

set_option maxRecDepth 16384

noncomputable section

namespace Cert.Moe

open Idealize.ShloMosaic

/-! ## The combining weights of one row -/

/-- The capacity of an expert. -/
abbrev cap : EReal := Ideal.ofBits .f32 1140850688#32
/-- The small constant below which the sum of the kept gates is not taken. -/
abbrev eps : EReal := Ideal.ofBits .f32 872415232#32

/-- The gate of expert `i`, if its place is below the capacity. -/
def keptGate (f : Fin 16 → EReal) (P : Fin 16 → EReal) (i : Fin 16) : EReal := if P i < cap then gate f i else 0

/-- What the two kept gates are divided by. -/
def den (f P1 P2 : Fin 16 → EReal) : EReal := max (keptGate f P1 (first f) + keptGate f P2 (first (rest f))) eps

/-- The weight of expert `e` at place `s`: the share of the first or of the second choice where the row's token
    takes that place, zero elsewhere. -/
def comb (f P1 P2 : Fin 16 → EReal) (e : Fin 16) (s : Fin 512) : EReal :=
  if e = first f then
    (if P1 e < cap ∧ BitVec.ofNat 32 s.val = Ideal.fptosi 32 (P1 e) then Ideal.div (keptGate f P1 e) (den f P1 P2) else 0)
  else if e = first (rest f) then
    (if P2 e < cap ∧ BitVec.ofNat 32 s.val = Ideal.fptosi 32 (P2 e) then Ideal.div (keptGate f P2 e) (den f P1 P2) else 0)
  else 0

/-- A sum with one possible term. -/
theorem sum_ind (i : Fin 16) (q : Fin 16 → Prop) [DecidablePred q] (g : Fin 16 → EReal) :
    ∑ x, g x * (ind (x = i) * ind (q x)) = if q i then g i else 0 := by
  rw [Finset.sum_eq_single i]
  · by_cases h : q i <;> simp [ind, h]
  · intro b _ hb; simp [ind, hb]
  · intro h; exact absurd (Finset.mem_univ _) h

/-- The reference's weights are those. -/
theorem comb_ref {f : Fin 16 → EReal} (hf : ∀ e, ∃ r : ℝ, f e = (r : EReal)) (P1 P2 : Fin 16 → EReal) (e : Fin 16) (s : Fin 512) :
    Ideal.div (∑ x, gate f x * (ind (x = first f) * ind (P1 x < cap)))
          (max eps (∑ x, gate f x * (ind (x = first f) * ind (P1 x < cap)) + ∑ x, gate f x * (ind (x = first (rest f)) * ind (P2 x < cap))))
        * (ind (e = first f) * ind (P1 e < cap))
        * ind (Ideal.fptosi 32 (∑ x, P1 x * (ind (x = first f) * ind (P1 x < cap))) = BitVec.ofNat 32 s.val)
      + Ideal.div (∑ x, gate f x * (ind (x = first (rest f)) * ind (P2 x < cap)))
          (max eps (∑ x, gate f x * (ind (x = first f) * ind (P1 x < cap)) + ∑ x, gate f x * (ind (x = first (rest f)) * ind (P2 x < cap))))
        * (ind (e = first (rest f)) * ind (P2 e < cap))
        * ind (Ideal.fptosi 32 (∑ x, P2 x * (ind (x = first (rest f)) * ind (P2 x < cap))) = BitVec.ofNat 32 s.val)
      = comb f P1 P2 e s := by
  rw [sum_ind (first f) (fun x => P1 x < cap), sum_ind (first (rest f)) (fun x => P2 x < cap), sum_ind (first f) (fun x => P1 x < cap), sum_ind (first (rest f)) (fun x => P2 x < cap)]
  have hd : max eps ((if P1 (first f) < cap then gate f (first f) else 0) + if P2 (first (rest f)) < cap then gate f (first (rest f)) else 0) = den f P1 P2 := max_comm _ _
  rw [hd]
  have hne := second_ne hf
  unfold comb
  by_cases h1 : e = first f
  · have h2 : e ≠ first (rest f) := h1 ▸ hne.symm
    by_cases hc : P1 (first f) < cap
    · by_cases hs : BitVec.ofNat 32 s.val = Ideal.fptosi 32 (P1 (first f))
      · simp [ind, h1, hne.symm, hc, hs, keptGate]
      · simp [ind, h1, hne.symm, hc, hs, Ne.symm hs, keptGate]
    · simp [ind, h1, hne.symm, hc]
  · by_cases h2 : e = first (rest f)
    · by_cases hc : P2 (first (rest f)) < cap
      · by_cases hs : BitVec.ofNat 32 s.val = Ideal.fptosi 32 (P2 (first (rest f)))
        · simp [ind, h2, hne, hc, hs, keptGate]
        · simp [ind, h2, hne, hc, hs, Ne.symm hs, keptGate]
      · simp [ind, h2, hne, hc]
    · simp [ind, h1, h2]

/-- The first choice, kept where its place is below the capacity, as the kernel selects it. -/
def k1 (f P1 : Fin 16 → EReal) (x : Fin 16) : EReal := if P1 x * ind (x = first f) < cap then ind (x = first f) else 0
/-- The second choice, with the places counted behind the first choices `T`. -/
def k2 (f Q T : Fin 16 → EReal) (x : Fin 16) : EReal :=
  if Q x * ind (x = first (rest f)) + T x * ind (x = first (rest f)) < cap then ind (x = first (rest f)) else 0

/-- The kernel's weight per expert. -/
def wK (f P1 Q T : Fin 16 → EReal) (e : Fin 16) : EReal :=
  Ideal.div (∑ x, gate f x * k1 f P1 x) (max (∑ x, gate f x * k1 f P1 x + ∑ x, gate f x * k2 f Q T x) eps) * k1 f P1 e
    + Ideal.div (∑ x, gate f x * k2 f Q T x) (max (∑ x, gate f x * k1 f P1 x + ∑ x, gate f x * k2 f Q T x) eps) * k2 f Q T e
/-- The kernel's place per expert. -/
def pK (f P1 Q T : Fin 16 → EReal) (e : Fin 16) : EReal :=
  if 0 < k1 f P1 e then P1 e * ind (e = first f)
  else if 0 < k2 f Q T e then Q e * ind (e = first (rest f)) + T e * ind (e = first (rest f)) else Ideal.ofBits .f32 3212836864#32

/-- The kept first choice is the choice times whether its place is below the capacity. -/
theorem k1_eq (f P1 : Fin 16 → EReal) (x : Fin 16) : k1 f P1 x = ind (x = first f) * ind (P1 x < cap) := by
  unfold k1
  by_cases h : x = first f
  · by_cases hc : P1 x < cap <;> simp [ind, h, h ▸ hc]
  · simp [ind, h]

/-- The kept second choice is the choice times whether its place is below the capacity. -/
theorem k2_eq (f Q T : Fin 16 → EReal) (x : Fin 16) : k2 f Q T x = ind (x = first (rest f)) * ind (Q x + T x < cap) := by
  unfold k2
  by_cases h : x = first (rest f)
  · by_cases hc : Q x + T x < cap <;> simp [ind, h, h ▸ hc]
  · simp [ind, h]

/-- The kernel's weight, written with the kept gates. -/
theorem wK_eq (f P1 Q T : Fin 16 → EReal) (e : Fin 16) :
    wK f P1 Q T e = Ideal.div (keptGate f P1 (first f)) (den f P1 fun x => Q x + T x) * (ind (e = first f) * ind (P1 e < cap))
      + Ideal.div (keptGate f (fun x => Q x + T x) (first (rest f))) (den f P1 fun x => Q x + T x) * (ind (e = first (rest f)) * ind (Q e + T e < cap)) := by
  unfold wK
  simp only [k1_eq, k2_eq]
  rw [sum_ind (first f) (fun x => P1 x < cap), sum_ind (first (rest f)) (fun x => Q x + T x < cap)]
  rfl

/-- The kernel's weights, laid out at the places, are those. -/
theorem comb_kernel {f : Fin 16 → EReal} (hf : ∀ e, ∃ r : ℝ, f e = (r : EReal)) (P1 Q T : Fin 16 → EReal) (e : Fin 16) (s : Fin 512) :
    (if BitVec.ofNat 32 s.val = Ideal.fptosi 32 (pK f P1 Q T e) then wK f P1 Q T e else 0) = comb f P1 (fun x => Q x + T x) e s := by
  have hne := second_ne hf
  rw [wK_eq]
  unfold comb pK
  simp only [k1_eq, k2_eq]
  by_cases h1 : e = first f
  · by_cases hc : P1 (first f) < cap
    · simp [ind, h1, hne.symm, hc]
    · simp [ind, h1, hne.symm, hc]
  · by_cases h2 : e = first (rest f)
    · by_cases hc : Q (first (rest f)) + T (first (rest f)) < cap
      · simp [ind, h2, hne, hc]
      · simp [ind, h2, hne, hc]
    · simp [ind, h1, h2]

/-- No weight is negative. -/
theorem wK_nonneg {f : Fin 16 → EReal} (hf : ∀ e, ∃ r : ℝ, f e = (r : EReal)) (P1 Q T : Fin 16 → EReal) (e : Fin 16) : 0 ≤ wK f P1 Q T e := by
  have hk : ∀ P i, 0 ≤ keptGate f P i := fun P i => by
    unfold keptGate; split
    · exact gate_nonneg hf i
    · exact le_rfl
  have hi : ∀ (p q : Prop) [Decidable p] [Decidable q], 0 ≤ ind p * ind q := fun p q _ _ => by
    unfold ind; split <;> split <;> simp
  have hd : ∀ P i, 0 ≤ Ideal.div (keptGate f P i) (den f P1 fun x => Q x + T x) := fun P i => by
    have h0 : 0 < den f P1 fun x => Q x + T x := lt_max_of_lt_right ofBits_eps_pos
    unfold Ideal.div
    rw [if_neg h0.ne']
    exact mul_nonneg (hk P i) (EReal.inv_nonneg_of_nonneg h0.le)
  rw [wK_eq]
  exact add_nonneg (mul_nonneg (hd _ _) (hi _ _)) (mul_nonneg (hd _ _) (hi _ _))

/-- The kernel's flag — the place is hit and the weight is above zero — says that the weight there is not zero. -/
theorem flag_kernel {f : Fin 16 → EReal} (hf : ∀ e, ∃ r : ℝ, f e = (r : EReal)) (P1 Q T : Fin 16 → EReal) (e : Fin 16) (s : Fin 512) :
    (BitVec.ofNat 32 s.val = Ideal.fptosi 32 (pK f P1 Q T e) ∧ 0 < wK f P1 Q T e) ↔ comb f P1 (fun x => Q x + T x) e s ≠ 0 := by
  rw [← comb_kernel hf]
  constructor
  · rintro ⟨h, h'⟩; rw [if_pos h]; exact h'.ne'
  · intro h
    by_cases hs : BitVec.ofNat 32 s.val = Ideal.fptosi 32 (pK f P1 Q T e)
    · rw [if_pos hs] at h
      exact ⟨hs, lt_of_le_of_ne (wK_nonneg hf P1 Q T e) h.symm⟩
    · rw [if_neg hs] at h; exact absurd rfl h

/-! ## The balance term -/

/-- The balance term of the column sums `ms` of the gates and `cs` of the first choices, as the kernel scales it. -/
def bal (ms cs : Fin 16 → EReal) : EReal :=
  (∑ x, ms x * Ideal.ofBits .f32 964689920#32 * (cs x * Ideal.ofBits .f32 964689920#32)) * Ideal.ofBits .f32 1098907648#32

/-- The reference's scaling — means, divided by sixteen and multiplied by sixteen twice — comes to the same. -/
theorem bal_ref (ms cs : Fin 16 → EReal) :
    Ideal.div (∑ x, Ideal.div (ms x) (Ideal.ofBits .f32 1166016512#32) * Ideal.div (cs x) (Ideal.ofBits .f32 1166016512#32)) (Ideal.ofBits .f32 1098907648#32)
      * Ideal.ofBits .f32 1098907648#32 * Ideal.ofBits .f32 1098907648#32 = bal ms cs := by
  unfold bal
  have h : ∀ y : EReal, Ideal.div y (Ideal.ofBits .f32 1166016512#32) = y * Ideal.ofBits .f32 964689920#32 := fun y => by
    rw [ofBits_4096, ofBits_inv4096, Ideal.div_coe (by norm_num)]
  have h16 : ∀ y : EReal, Ideal.div y (Ideal.ofBits .f32 1098907648#32) * Ideal.ofBits .f32 1098907648#32 = y := fun y => by
    rw [ofBits_16, Ideal.div_coe (by norm_num), mul_assoc, ← EReal.coe_mul]
    norm_num
  rw [h16]
  simp only [h]

end Cert.Moe

end
-- ==== Proof.RoutingRead.lean ====
module

public import proofs.«01_k».proof.Proof.RoutingDat
public import proofs.«01_k».proof.Proof.Counts
public import proofs.«01_k».proof.Proof.Row
public import Idealize.ShloMosaic.Lib.Pointwise

@[expose] public section

set_option maxRecDepth 16384

noncomputable section

namespace Cert.KernelIdeal.Routing

open Idealize.ShloMosaic Idealize.ShloMosaic.TcCoe Idealize.SL.Sem
open Cert.KernelIdeal Cert.KernelIdeal.Gen Cert.Moe

/-! ## The first call's arithmetic, read at an index -/

section
variable (x : FVec Ideal S512x4096 .f32) (w : FVec Ideal S4096x16 .f32)

/-- A block's logits. -/
def logitB (r : Fin 512) (e : Fin 16) : EReal := ∑ k : Fin 4096, x (ix2 r k) * w (ix2 k e)

/-- The kernel's logits are those. -/
theorem pay6_apply (r : Fin 512) (e : Fin 16) : k0_pay6 (F := Ideal) x w (ix2 r e) = logitB x w r e := by
  pointwise [k0_pay6]
  rfl

/-- The gates of a block. -/
theorem pay8_apply (r : Fin 512) (e : Fin 16) : k0_pay8 (F := Ideal) x w (ix2 r e) = gate (logitB x w r) e := by
  pointwise [k0_pay8, k0_pay7, pay6_apply, ofBits_neg_inf]
  rfl

/-- The first choice of each row, as a word. -/
theorem pay9_apply (r : Fin 512) : k0_pay9 (F := Ideal) x w (ix2 r 0) = BitVec.ofNat 32 (first (logitB x w r)).val := by
  pointwise [k0_pay9, k0_pay7, pay6_apply, ofBits_neg_inf]
  exact word_first (logitB x w r)

/-- The first choices of a block, as one-hot rows. -/
theorem pay10_apply (r : Fin 512) (e : Fin 16) : k0_pay10 (F := Ideal) x w (ix2 r e) = ind (e = first (logitB x w r)) := by
  pointwise [k0_pay10, pay9_apply]
  rw [sitofp_eq]
  simp only [ind, ofNat_inj16]

/-- The second choices of a block, as one-hot rows. -/
theorem pay11_apply (r : Fin 512) (e : Fin 16) : k0_pay11 (F := Ideal) x w (ix2 r e) = ind (e = first (rest (logitB x w r))) := by
  pointwise [k0_pay11, pay9_apply, pay6_apply, ofBits_neg_inf]
  have h : (fun k : Fin 16 => Scalar.select (IntOp.cmpi CmpIPredicate.eq (BitVec.ofNat 32 k.val) (BitVec.ofNat 32 (first (logitB x w r)).val)) (⊥ : EReal) (logitB x w r k)) = rest (logitB x w r) := by
    funext k
    rw [select_eq]
    simp only [ofNat_inj16]
    rfl
  have h' : ∀ k : Fin 16, Scalar.select (IntOp.cmpi CmpIPredicate.eq (BitVec.ofNat 32 k.val) (BitVec.ofNat 32 (first (logitB x w r)).val)) (⊥ : EReal) (logitB x w r k) = rest (logitB x w r) k := fun k => congrFun h k
  simp only [h']
  rw [show (fun k => rest (logitB x w r) k) = rest (logitB x w r) from rfl]
  have hw := word_first (rest (logitB x w r))
  unfold peak at hw
  rw [hw, sitofp_eq]
  simp only [ind, ofNat_inj16]
end

/-! ## One step, with the block's rows taken from a table of logits -/

/-- What a step starts from: the sums of the rows of the earlier blocks. -/
def Counts (L : Tab) (k : ℕ) (s : Sums Ideal) : Prop :=
  ∀ e : Fin 16, s.1 (ix2 0 e) = colN (hot1 L) (512 * k) e ∧ s.2.1 (ix2 0 e) = colN (hot2 L) (512 * k) e ∧ s.2.2 (ix2 0 e) = colN (gateT L) (512 * k) e

/-- The block is the table's block `k`. -/
def BlockOf (L : Tab) (k : ℕ) (x : FVec Ideal S512x4096 .f32) (w : FVec Ideal S4096x16 .f32) : Prop :=
  ∀ (r : Fin 512) (h : 512 * k + r.val < 4096), logitB x w r = L ⟨512 * k + r.val, h⟩

section
variable {L : Tab} {k : ℕ} (hk : k < 8) {x : FVec Ideal S512x4096 .f32} {w : FVec Ideal S4096x16 .f32} (hB : BlockOf L k x w)
include hk hB

/-- The block's first choices are the table's. -/
theorem hot1_block (r : Fin 512) (e : Fin 16) : k0_pay10 (F := Ideal) x w (ix2 r e) = at0 (hot1 L) e (512 * k + r.val) := by
  have hr := r.isLt
  rw [pay10_apply, hB r (by omega), at0_lt _ _ (by omega)]
  rfl
/-- The block's second choices are the table's. -/
theorem hot2_block (r : Fin 512) (e : Fin 16) : k0_pay11 (F := Ideal) x w (ix2 r e) = at0 (hot2 L) e (512 * k + r.val) := by
  have hr := r.isLt
  rw [pay11_apply, hB r (by omega), at0_lt _ _ (by omega)]
  rfl
/-- The block's gates are the table's. -/
theorem gate_block (r : Fin 512) (e : Fin 16) : k0_pay8 (F := Ideal) x w (ix2 r e) = at0 (gateT L) e (512 * k + r.val) := by
  have hr := r.isLt
  rw [pay8_apply, hB r (by omega), at0_lt _ _ (by omega)]
  rfl

/-- A step carries the sums on by one block. -/
theorem counts_next {s : Sums Ideal} (hs : Counts L k s) : Counts L (k + 1) (next x w s) := by
  intro e
  obtain ⟨h1, h2, h3⟩ := hs e
  have e1 := hot1_block hk hB
  have e2 := hot2_block hk hB
  have e3 := gate_block hk hB
  refine ⟨?_, ?_, ?_⟩
  · show k0_pay13 (k0_pay10 x w) s.1 (ix2 0 e) = _
    pointwise [k0_pay13]
    rw [h1, ← colN_block]
    exact congrArg _ (Finset.sum_congr rfl fun r _ => e1 r e)
  · show k0_pay14 (k0_pay11 x w) s.2.1 (ix2 0 e) = _
    pointwise [k0_pay14]
    rw [h2, ← colN_block]
    exact congrArg _ (Finset.sum_congr rfl fun r _ => e2 r e)
  · show k0_pay1 (k0_pay8 x w) s.2.2 (ix2 0 e) = _
    pointwise [k0_pay1]
    rw [h3, ← colN_block]
    exact congrArg _ (Finset.sum_congr rfl fun r _ => e3 r e)

/-- The five pieces of a row of per-token data: the gates, … -/
theorem meta_gate (s : Sums Ideal) (r : Fin 512) (e : Fin 16) :
    metaOf x w s (ix2 r ⟨e.val, by omega⟩) = at0 (gateT L) e (512 * k + r.val) := by
  show k0_pay12 (k0_pay8 x w) (k0_pay10 x w) (k0_pay11 x w) s.1 s.2.1 (ix2 r ⟨e.val, by omega⟩) = _
  pointwise [k0_pay12]
  exact gate_block hk hB r e
/-- … the first choice, … -/
theorem meta_hot1 (s : Sums Ideal) (r : Fin 512) (e : Fin 16) :
    metaOf x w s (ix2 r ⟨16 + e.val, by omega⟩) = at0 (hot1 L) e (512 * k + r.val) := by
  show k0_pay12 (k0_pay8 x w) (k0_pay10 x w) (k0_pay11 x w) s.1 s.2.1 (ix2 r ⟨16 + e.val, by omega⟩) = _
  have he := e.isLt
  pointwise [k0_pay12]
  exact hot1_block hk hB r e
/-- … the second choice, … -/
theorem meta_hot2 (s : Sums Ideal) (r : Fin 512) (e : Fin 16) :
    metaOf x w s (ix2 r ⟨32 + e.val, by omega⟩) = at0 (hot2 L) e (512 * k + r.val) := by
  show k0_pay12 (k0_pay8 x w) (k0_pay10 x w) (k0_pay11 x w) s.1 s.2.1 (ix2 r ⟨32 + e.val, by omega⟩) = _
  have he := e.isLt
  pointwise [k0_pay12]
  rw [dif_neg (by omega), dif_neg (by omega), dif_pos (by omega)]
  refine Eq.trans (congrArg (fun q => k0_pay11 (F := Ideal) x w (ix2 r q)) (Fin.ext ?_)) (hot2_block hk hB r e)
  show 32 + e.val - 16 - 16 = e.val
  omega
/-- … the place of the first choice, … -/
theorem meta_pl1 {s : Sums Ideal} (hs : Counts L k s) (r : Fin 512) (e : Fin 16) :
    metaOf x w s (ix2 r ⟨48 + e.val, by omega⟩) = (colN (hot1 L) (512 * k + r.val + 1) e - 1) * at0 (hot1 L) e (512 * k + r.val) := by
  show k0_pay12 (k0_pay8 x w) (k0_pay10 x w) (k0_pay11 x w) s.1 s.2.1 (ix2 r ⟨48 + e.val, by omega⟩) = _
  have he := e.isLt
  pointwise [k0_pay12]
  rw [dif_neg (by omega), dif_neg (by omega), dif_neg (by omega), dif_pos (by omega)]
  have hq : (⟨48 + e.val - 16 - 16 - 16, by omega⟩ : Fin 16) = e := Fin.ext (by show 48 + e.val - 16 - 16 - 16 = e.val; omega)
  simp only [hq]
  rw [← colN_row, (hs e).1, hot1_block hk hB]
  refine congrArg (fun a : EReal => (a - 1 + colN (hot1 L) (512 * k) e) * at0 (hot1 L) e (512 * k + r.val)) (Finset.sum_congr rfl fun y _ => ?_)
  rw [hot1_block hk hB, sitofp_sge r.isLt y.isLt]
/-- … and the place of the second choice among the second choices. -/
theorem meta_pl2 {s : Sums Ideal} (hs : Counts L k s) (r : Fin 512) (e : Fin 16) :
    metaOf x w s (ix2 r ⟨64 + e.val, by omega⟩) = (colN (hot2 L) (512 * k + r.val + 1) e - 1) * at0 (hot2 L) e (512 * k + r.val) := by
  show k0_pay12 (k0_pay8 x w) (k0_pay10 x w) (k0_pay11 x w) s.1 s.2.1 (ix2 r ⟨64 + e.val, by omega⟩) = _
  have he := e.isLt
  pointwise [k0_pay12]
  rw [dif_neg (by omega), dif_neg (by omega), dif_neg (by omega), dif_neg (by omega)]
  have hq : (⟨64 + e.val - 16 - 16 - 16 - 16, by omega⟩ : Fin 16) = e := Fin.ext (by show 64 + e.val - 16 - 16 - 16 - 16 = e.val; omega)
  simp only [hq]
  rw [← colN_row, (hs e).2.1, hot2_block hk hB]
  refine congrArg (fun a : EReal => (a - 1 + colN (hot2 L) (512 * k) e) * at0 (hot2 L) e (512 * k + r.val)) (Finset.sum_congr rfl fun y _ => ?_)
  rw [hot2_block hk hB, sitofp_sge r.isLt y.isLt]
end

/-- The first step starts from nothing. -/
theorem counts_zero (L : Tab) : Counts L 0 (sums0 (F := Ideal)) := by
  intro e
  rw [Nat.mul_zero, colN_zero, colN_zero, colN_zero]
  refine ⟨?_, ?_, ?_⟩
  · show k0_pay3 (F := Ideal) (ix2 0 e) = 0
    pointwise [k0_pay3]
  · show k0_pay4 (F := Ideal) (ix2 0 e) = 0
    pointwise [k0_pay4]
  · show k0_pay5 (F := Ideal) (ix2 0 e) = 0
    pointwise [k0_pay5]

/-- The small result holds the count of the first choices per expert, … -/
theorem aux_count (s : Sums Ideal) (e : Fin 16) : auxOf s (ix2 0 ⟨e.val, by omega⟩) = s.1 (ix2 0 e) := by
  show k0_pay2 s.2.2 s.1 s.1 (ix2 0 ⟨e.val, by omega⟩) = _
  pointwise [k0_pay2]
/-- … and the balance term. -/
theorem aux_bal (s : Sums Ideal) : auxOf s (ix2 0 16) = bal (fun e => s.2.2 (ix2 0 e)) (fun e => s.1 (ix2 0 e)) := by
  show k0_pay2 s.2.2 s.1 s.1 (ix2 0 16) = _
  pointwise [k0_pay2]
  rfl

end Cert.KernelIdeal.Routing

end
-- ==== Proof.MidRead.lean ====
module

public import proofs.«01_k».proof.Proof.Launch
public import proofs.«01_k».proof.Proof.RoutingRead
public import Idealize.ShloMosaic.Lib.Pipeline.ValueKit

@[expose] public section

set_option maxRecDepth 16384

noncomputable section

namespace Cert.KernelIdeal.Routing

open Idealize.ShloMosaic Idealize.ShloMosaic.TcCoe Idealize.SL.Sem
open Idealize.ShloMosaic.Pipeline (Dat)
open Cert.KernelIdeal Cert.KernelIdeal.Gen Cert.Moe

/-! ## The first call's two results as arrays -/

/-- The block positions of the first call's windows. -/
theorem idx0 : ∀ t : Fin cfg0.N, win0_0.index t = ![t.val, 0] ∧ win0_1.index t = ![0, 0] ∧ win0_2.index t = ![t.val, 0] :=
  (by decide +kernel : ∀ t : Fin grid0.N, _)

section
variable {F : FTy → Type} [FloatOps F]
variable (Vc : (c : Dev nD) → (b : Ref sig .tc) → Buf (Elt F) ((c : Thread nD τ).loc b))

/-- The array of per-token data, block by block. -/
def metaArr (c : Dev nD) : Vec F S4096x80 .f32 := fun i =>
  metaOf (iblk0 Vc c 0 (pt ((i 0).val / 512))) (iblk0 Vc c 1 (pt ((i 0).val / 512))) (sumsAt Vc c ((i 0).val / 512))
    (ix2 ⟨(i 0).val % 512, Nat.mod_lt _ (by decide)⟩ (i 1))

/-- Read at row `r` of block `t`. -/
theorem metaArr_at (c : Dev nD) (t : Fin cfg0.N) (y : S512x80.Idx) (i : S4096x80.Idx) (h0 : (i 0).val = 512 * t.val + (y 0).val) (h1 : (i 1).val = (y 1).val) :
    metaArr Vc c i = metaOf (iblk0 Vc c 0 t) (iblk0 Vc c 1 t) (sumsAt Vc c t.val) y := by
  have hy : (y 0).val < 512 := (y 0).isLt
  have e : (i 0).val / 512 = t.val := by omega
  have e' : (i 0).val % 512 = (y 0).val := by omega
  unfold metaArr
  rw [e, pt_val]
  refine congrArg _ (funext fun a => ?_)
  match a with
  | ⟨0, _⟩ => exact Fin.ext e'
  | ⟨1, _⟩ => exact Fin.ext h1

/-- The first call leaves that array in its first result. -/
theorem meta_final (c : Dev nD) : (dat0 Vc c).arrAt 2 cfg0.N = metaArr Vc c := by
  refine (dat0 Vc c).arrAt_eq_of_covers 2 _ (by decide +kernel) fun t _ y => ?_
  blk_simp
  rw [after0_2]
  refine (metaArr_at Vc c t y _ ?_ ?_).symm
  · have := (idx0 t).2.2
    blk_simp [this]
    omega
  · have := (idx0 t).2.2
    blk_simp [this]

/-- The first call leaves the small result of the last step in its second. -/
theorem aux_final (c : Dev nD) : (dat0 Vc c).arrAt 3 cfg0.N = auxOf (sumsAt Vc c 8) := by
  refine (dat0 Vc c).arrAt_eq_of_after_last 3 (pt 7) (by decide +kernel) _ fun j => ?_
  blk_simp
  rw [after0_3]
  rfl
end

end Cert.KernelIdeal.Routing

end
-- ==== Proof.RefRead.lean ====
module

public import proofs.«01_k».proof.Proof.RefRun
public import proofs.«01_k».proof.Proof.Counts
public import Idealize.ShloMosaic.Lib.Pointwise

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.ReferenceIdeal.Stages Cert.Moe

/-! ## The arg-max -/

/-- One comparison of the arg-max keeps the second pair where it is better: larger, or as large at no later index. -/
theorem step_eq (p q : EReal × BitVec 32) :
    reducer_argmax_f32_i32 (F := Ideal) p q = if q.1 < p.1 ∨ (p.1 = q.1 ∧ p.2.toInt < q.2.toInt) then p else q := by
  obtain ⟨a, i⟩ := p
  obtain ⟨b, j⟩ := q
  show ((Scalar.select (IntOp.ori (Ideal.cmp .ogt a b) (Ideal.cmp .une a a)) a b,
    Scalar.select (IntOp.ori (IntOp.ori (Ideal.cmp .ogt a b) (Ideal.cmp .une a a)) (IntOp.andi (Ideal.cmp .oeq a b) (IntOp.cmpi .slt i j))) i j) : EReal × BitVec 32) = _
  have hs : IntOp.cmpi .slt i j = BitVec.ofBool (decide (i.toInt < j.toInt)) := rfl
  rw [hs]
  unfold Ideal.cmp Scalar.select IntOp.ori IntOp.andi
  rcases lt_trichotomy a b with h | h | h
  · simp [h.ne, not_lt.2 h.le]
  · subst h
    by_cases h' : i.toInt < j.toInt <;> simp [h']
  · simp [h, h.ne']

/-- The arg-max over a list of pairs, from a first pair: the result is one of the pairs, its value is largest, and no pair of the same value has a smaller index. -/
theorem foldl_best (l : List (EReal × BitVec 32)) (p : EReal × BitVec 32) :
    l.foldl (reducer_argmax_f32_i32 (F := Ideal)) p ∈ p :: l ∧
      ∀ q ∈ p :: l, q.1 ≤ (l.foldl (reducer_argmax_f32_i32 (F := Ideal)) p).1
        ∧ (q.1 = (l.foldl (reducer_argmax_f32_i32 (F := Ideal)) p).1 → (l.foldl (reducer_argmax_f32_i32 (F := Ideal)) p).2.toInt ≤ q.2.toInt) := by
  induction l generalizing p with
  | nil => simp
  | cons a l ih =>
    rw [List.foldl_cons]
    have hs := step_eq p a
    set s := reducer_argmax_f32_i32 (F := Ideal) p a with hsdef
    obtain ⟨hm, hq⟩ := ih s
    set R := l.foldl (reducer_argmax_f32_i32 (F := Ideal)) s with hR
    obtain ⟨hs1, hs2⟩ := hq s (List.mem_cons_self)
    have hsp : s = p ∨ s = a := by rw [hs]; split <;> simp
    have hp : p.1 ≤ s.1 ∧ (p.1 = s.1 → s.2.toInt ≤ p.2.toInt) := by
      rw [hs]; split
      · exact ⟨le_rfl, fun _ => le_rfl⟩
      · next h => rw [not_or, not_lt] at h; exact ⟨h.1, fun e => not_lt.1 fun hl => h.2 ⟨e, hl⟩⟩
    have ha : a.1 ≤ s.1 ∧ (a.1 = s.1 → s.2.toInt ≤ a.2.toInt) := by
      rw [hs]; split
      · next h =>
        rcases h with h | h
        · exact ⟨h.le, fun e => absurd e h.ne⟩
        · exact ⟨h.1.ge, fun _ => h.2.le⟩
      · exact ⟨le_rfl, fun _ => le_rfl⟩
    have lift : ∀ q : EReal × BitVec 32, (q.1 ≤ s.1 ∧ (q.1 = s.1 → s.2.toInt ≤ q.2.toInt)) → q.1 ≤ R.1 ∧ (q.1 = R.1 → R.2.toInt ≤ q.2.toInt) := by
      rintro q ⟨h1, h2⟩
      refine ⟨h1.trans hs1, fun e => ?_⟩
      have e1 : q.1 = s.1 := le_antisymm h1 (by rw [e]; exact hs1)
      exact (hs2 (by rw [← e1, e])).trans (h2 e1)
    refine ⟨?_, fun q hqm => ?_⟩
    · rcases List.mem_cons.1 hm with h | h
      · rw [h]; rcases hsp with h' | h' <;> rw [h'] <;> simp
      · exact List.mem_cons_of_mem _ (List.mem_cons_of_mem _ h)
    · rcases List.mem_cons.1 hqm with rfl | hqm
      · exact lift _ hp
      · rcases List.mem_cons.1 hqm with rfl | hqm
        · exact lift _ ha
        · exact hq q (List.mem_cons_of_mem _ hqm)

/-- The chosen expert of a row is the first of the row's largest values. -/
theorem best_apply (g : FVec Ideal S4096x16 .f32) (r : Fin 4096) : best g (ix1 r) = BitVec.ofNat 32 (first fun e => g (ix2 r e)).val := by
  unfold best
  rw [Ideal.argReduce_eq_reduce2, Host.reduce2_eq_foldl_fiber]
  set l := Host.argReduceFiber g (iotaInDim S4096x16 32 1) reducesTo_S4096x16_S4096_d1 (ix1 r : S4096.Idx) with hl
  have mem : ∀ q : EReal × BitVec 32, q ∈ l ↔ ∃ e : Fin 16, q = (g (ix2 r e), BitVec.ofNat 32 e.val) := by
    intro q
    rw [hl, Host.argReduceFiber, List.mem_map]
    constructor
    · rintro ⟨n, hn, rfl⟩
      rw [List.mem_filter, decide_eq_true_eq] at hn
      obtain ⟨-, hn⟩ := hn
      have h0 : ((S4096x16.rowMajor.symm n) 0).val = r.val := by
        rw [← Shape.ReducesTo.drop_apply_val_of_eq reducesTo_S4096x16_S4096_d1 (S4096x16.rowMajor.symm n) 0 0 (by decide) (by decide), hn]; rfl
      have e : S4096x16.rowMajor.symm n = ix2 r ((S4096x16.rowMajor.symm n) 1) := by
        funext a
        match a with
        | ⟨0, _⟩ => exact Fin.ext h0
        | ⟨1, _⟩ => rfl
      refine ⟨(S4096x16.rowMajor.symm n) 1, Prod.ext ?_ rfl⟩
      exact congrArg g e
    · rintro ⟨e, rfl⟩
      refine ⟨S4096x16.rowMajor (ix2 r e), ?_, ?_⟩
      · rw [List.mem_filter, decide_eq_true_eq]
        refine ⟨List.mem_finRange _, ?_⟩
        rw [Equiv.symm_apply_apply]
        funext b
        match b with
        | ⟨0, _⟩ => exact Fin.ext (Shape.ReducesTo.drop_apply_val_of_eq reducesTo_S4096x16_S4096_d1 (ix2 r e) 0 0 (by decide) (by decide))
      · rw [Equiv.symm_apply_apply]; rfl
  obtain ⟨hm, hq⟩ := foldl_best l (constant (F := Ideal) S_ .f32 0xFF800000#32 (Shape.Idx.first h_S_), constantI S_ 32 0#32 (Shape.Idx.first h_S_))
  set R := l.foldl (reducer_argmax_f32_i32 (F := Ideal)) (constant (F := Ideal) S_ .f32 0xFF800000#32 (Shape.Idx.first h_S_), constantI S_ 32 0#32 (Shape.Idx.first h_S_)) with hR
  have c1 : (constant (F := Ideal) S_ .f32 0xFF800000#32 (Shape.Idx.first h_S_) : EReal) = ⊥ := ofBits_neg_inf
  have c2 : constantI S_ 32 0#32 (Shape.Idx.first h_S_) = 0#32 := rfl
  rw [c1, c2] at hm hq
  have hle : ∀ e : Fin 16, g (ix2 r e) ≤ R.1 ∧ (g (ix2 r e) = R.1 → R.2.toInt ≤ (e.val : ℤ)) := fun e => by
    have := hq _ (List.mem_cons_of_mem _ ((mem _).2 ⟨e, rfl⟩))
    rwa [toInt_small e.isLt] at this
  have key : ∃ e : Fin 16, R.1 = g (ix2 r e) ∧ R.2 = BitVec.ofNat 32 e.val := by
    rcases List.mem_cons.1 hm with h | h
    · refine ⟨0, ?_, ?_⟩
      · rw [h]; have := (hle 0).1; rw [h] at this; exact (le_bot_iff.1 this).symm
      · rw [h]; rfl
    · obtain ⟨e, he⟩ := (mem R).1 h
      exact ⟨e, congrArg Prod.fst he, congrArg Prod.snd he⟩
  obtain ⟨e, he1, he2⟩ := key
  rw [he2]
  have : IsFirst (fun e => g (ix2 r e)) e := by
    refine ⟨fun k => (hle k).1.trans_eq he1, fun k hk => lt_of_le_of_ne ((hle k).1.trans_eq he1) fun h => ?_⟩
    have := (hle k).2 (h.trans he1.symm)
    rw [he2, toInt_small e.isLt] at this
    have hk' : k.val < e.val := hk
    omega
  exact congrArg (fun k : Fin 16 => BitVec.ofNat 32 k.val) (this.eq (first_spec _))

/-! ## The running counts -/

/-- A left fold of additions is the sum. -/
theorem foldl_add {α : Type} (g : α → EReal) (l : List α) (z : EReal) : l.foldl (fun r n => r + g n) z = z + (l.map g).sum := by
  induction l generalizing z with
  | nil => simp
  | cons a l ih => rw [List.foldl_cons, ih, List.map_cons, List.sum_cons, add_assoc]

/-- The running count at a row is the sum of the entries down to it. -/
theorem cum_apply (m : FVec Ideal S4096x16 .f32) (r : Fin 4096) (e : Fin 16) :
    cum m (ix2 r e) = colN (fun r e => m (ix2 r e)) (r.val + 1) e := by
  have z0 : (broadcastInDim S_ ![] bcast_S_S_ (constant (F := Ideal) S_ .f32 0x00000000#32) (Shape.Idx.first h_S_) : EReal) = 0 := Ideal.ofBits_zero_f32
  unfold cum Host.reduceWindowAdd
  rw [Ideal.hostReduceWindowAdd_def]
  unfold Ideal.hostReduceWindowAdd
  rw [z0]
  unfold Host.reduceWindow
  dsimp only
  rw [foldl_add, zero_add, ← Fin.sum_univ_def]
  refine ((Shape.rowMajor (⟨2, ![4096, 1]⟩ : Shape)).sum_comp (fun n => _)).symm.trans ?_
  simp only [Equiv.symm_apply_apply]
  rw [sum_idx2]
  refine Eq.trans (Finset.sum_congr rfl fun a _ => ?_) (sum_window (fun n => at0 (fun r e => m (ix2 r e)) e n) r)
  rw [Fin.sum_univ_one]
  have ha := a.isLt
  have hr := r.isLt
  have he := e.isLt
  by_cases h : 4095 ≤ r.val + a.val
  · rw [if_pos h, dif_pos, at0_lt _ _ (by omega)]
    · congr 1
      funext b
      match b with
      | ⟨0, _⟩ => refine Fin.ext ?_; show r.val * 1 + a.val - 4095 = r.val + a.val - 4095; omega
      | ⟨1, _⟩ => refine Fin.ext ?_; show e.val * 1 + 0 - 0 = e.val; omega
    · intro b
      match b with
      | ⟨0, _⟩ => show 4095 ≤ r.val * 1 + a.val ∧ r.val * 1 + a.val - 4095 < 4096; omega
      | ⟨1, _⟩ => show 0 ≤ e.val * 1 + 0 ∧ e.val * 1 + 0 - 0 < 16; omega
  · rw [if_neg h, dif_neg]
    intro hin
    have := (hin 0).1
    change 4095 ≤ r.val * 1 + a.val at this
    omega

end Cert.ReferenceIdeal.Read

end
-- ==== Proof.RefValue.lean ====
module

public import proofs.«01_k».proof.Proof.RefRead
public import proofs.«01_k».proof.Proof.Row

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.ReferenceIdeal.Stages Cert.ReferenceIdeal.Line Cert.Moe

/-- The logits: each token's row times each expert's row of weights. -/
def logitT (x : FVec Ideal S4096x4096 .f32) (w : FVec Ideal S16x4096 .f32) : Tab := fun r e => ∑ k : Fin 4096, x (ix2 r k) * w (ix2 e k)

/-- The reference's logits are those. -/
theorem logits_apply (x : FVec Ideal S4096x4096 .f32) (w : FVec Ideal S16x4096 .f32) (r : Fin 4096) (e : Fin 16) :
    logits (F := Ideal) x w (ix2 r e) = logitT x w r e := by
  pointwise [logits]
  rfl

/-- The gates, row by row. -/
theorem gates_apply (l : FVec Ideal S4096x16 .f32) (r : Fin 4096) (e : Fin 16) :
    gates (F := Ideal) l (ix2 r e) = gate (fun e => l (ix2 r e)) e := by
  pointwise [gates, weights, rowSum, spread, top, ofBits_neg_inf]
  rw [max_eq_right bot_le]
  rfl

/-- One-hot rows from a choice per row. -/
theorem hot_apply (b : IVec S4096 32) (i : Fin 4096 → Fin 16) (hb : ∀ r, b (ix1 r) = BitVec.ofNat 32 (i r).val) (r : Fin 4096) (e : Fin 16) :
    hot (F := Ideal) b (ix2 r e) = ind (e = i r) := by
  pointwise [hot, hb]
  rw [uitofp_eq]
  unfold ind
  by_cases h : e = i r
  · rw [if_pos h, if_pos (by rw [h])]
  · rw [if_neg h, if_neg fun h' => h ((ofNat_inj16 _ _).1 h').symm]

/-- The logits with the chosen expert struck out. -/
theorem others_apply (l m : FVec Ideal S4096x16 .f32) (i : Fin 4096 → Fin 16) (hm : ∀ r e, m (ix2 r e) = ind (e = i r)) (r : Fin 4096) (e : Fin 16) :
    others (F := Ideal) l m (ix2 r e) = if e = i r then ⊥ else l (ix2 r e) := by
  show Scalar.select (Ideal.cmp .une (m (ix2 r e)) (Ideal.ofBits .f32 0x00000000#32)) (Ideal.ofBits .f32 4286578688#32) (l (ix2 r e)) = _
  rw [hm, ofBits_neg_inf, Ideal.ofBits_zero_f32]
  unfold ind Ideal.cmp Scalar.select
  by_cases h : e = i r <;> simp [h]

/-- The choices kept: those whose place is below the capacity. -/
theorem kept_apply (p m : FVec Ideal S4096x16 .f32) (r : Fin 4096) (e : Fin 16) :
    kept (F := Ideal) p m (ix2 r e) = m (ix2 r e) * ind (p (ix2 r e) < cap) := by
  pointwise [kept, all16]
  rw [uitofp_ofBool]

section
variable (x : FVec Ideal S4096x4096 .f32) (w : FVec Ideal S16x4096 .f32)
variable (hL : ∀ (r : Fin 4096) (e : Fin 16), ∃ y : ℝ, logitT x w r e = (y : EReal))

/-- The reference's gates. -/
theorem G_apply (r : Fin 4096) (e : Fin 16) : G x w (ix2 r e) = gateT (logitT x w) r e := by
  show gates (logits x w) (ix2 r e) = _
  rw [gates_apply]
  exact congrArg (fun f => gate f e) (funext fun e => logits_apply x w r e)

include hL in
/-- The reference's first choices. -/
theorem M1_apply (r : Fin 4096) (e : Fin 16) : M1 x w (ix2 r e) = hot1 (logitT x w) r e := by
  refine hot_apply _ (fun r => first (logitT x w r)) (fun r => ?_) r e
  rw [best_apply, ← first_gate (hL r)]
  exact congrArg (fun f => BitVec.ofNat 32 (first f).val) (funext fun e => G_apply x w r e)

include hL in
/-- The reference's second choices. -/
theorem M2_apply (r : Fin 4096) (e : Fin 16) : M2 x w (ix2 r e) = hot2 (logitT x w) r e := by
  refine hot_apply _ (fun r => first (rest (logitT x w r))) (fun r => ?_) r e
  rw [best_apply]
  refine congrArg (fun f => BitVec.ofNat 32 (first f).val) (funext fun e => ?_)
  rw [others_apply (logits x w) (M1 x w) (fun r => first (logitT x w r)) (M1_apply x w hL), logits_apply]
  rfl

include hL in
/-- The reference's places of the first choices. -/
theorem P1_apply (r : Fin 4096) (e : Fin 16) : P1 x w (ix2 r e) = pl1 (logitT x w) r e := by
  show place1 (M1 x w) (ix2 r e) = _
  pointwise [place1, all16]
  rw [cum_apply]
  exact congrArg (fun m => colN m (r.val + 1) e - 1) (funext fun r => funext fun e => M1_apply x w hL r e)

include hL in
/-- The reference's places of the second choices: behind all the first choices. -/
theorem P2_apply (r : Fin 4096) (e : Fin 16) : P2 x w (ix2 r e) = pl2 (logitT x w) r e + colN (hot1 (logitT x w)) 4096 e := by
  show place2 (M1 x w) (M2 x w) (ix2 r e) = _
  pointwise [place2, all16, colSum]
  have e2 : (fun (r : Fin 4096) (e : Fin 16) => M2 x w (ix2 r e)) = hot2 (logitT x w) := funext fun r => funext fun e => M2_apply x w hL r e
  rw [cum_apply, e2, colN_all (hot1 (logitT x w))]
  exact congrArg (colN (hot2 (logitT x w)) (r.val + 1) e - 1 + ·) (Finset.sum_congr rfl fun y _ => M1_apply x w hL y e)

include hL in
/-- The reference's balance term. -/
theorem out0_apply (j : S_.Idx) : out0 x w j = bal (colN (gateT (logitT x w)) 4096) (colN (hot1 (logitT x w)) 4096) := by
  show balance (G x w) (M1 x w) j = _
  pointwise [balance, colMean, colSum]
  rw [← bal_ref]
  simp only [G_apply, M1_apply x w hL, colN_all]

set_option maxHeartbeats 1000000 in
include hL in
/-- The reference's combining weights. -/
theorem out1_apply (r : Fin 4096) (e : Fin 16) (s : Fin 512) :
    out1 x w (ix3 r e s) = comb (logitT x w r) (pl1 (logitT x w) r) (fun e => pl2 (logitT x w) r e + colN (hot1 (logitT x w)) 4096 e) e s := by
  show combine (G x w) (kept (P1 x w) (M1 x w)) (kept (P2 x w) (M2 x w)) (P1 x w) (P2 x w) (ix3 r e s) = _
  have h1 := M1_apply x w hL
  have h2 := M2_apply x w hL
  have h3 := P1_apply x w hL
  have h4 := P2_apply x w hL
  pointwise [combine, part, slot, rowSum, clipped, spread, kept_apply, G_apply, h1, h2, h3, h4, uitofp_eq]
  exact comb_ref (hL r) _ _ e s

include hL in
/-- The reference's flags: where the weights are not zero. -/
theorem out2_apply (r : Fin 4096) (e : Fin 16) (s : Fin 512) :
    out2 x w (ix3 r e s) = BitVec.ofBool (decide
      (comb (logitT x w r) (pl1 (logitT x w) r) (fun e => pl2 (logitT x w) r e + colN (hot1 (logitT x w)) 4096 e) e s ≠ 0)) := by
  show Ideal.cmp .une (out1 x w (ix3 r e s)) (Ideal.ofBits .f32 0x00000000#32) = _
  rw [out1_apply x w hL, Ideal.ofBits_zero_f32]
  rfl

end

end Cert.ReferenceIdeal.Read

end
-- ==== Proof.MidValue.lean ====
module

public import proofs.«01_k».proof.Proof.MidRead
public import proofs.«01_k».proof.Proof.RefValue

@[expose] public section

set_option maxRecDepth 16384

noncomputable section

namespace Cert.KernelIdeal.Routing

open Idealize.ShloMosaic Idealize.ShloMosaic.TcCoe Idealize.ShloMosaic.StableHlo Idealize.SL.Sem
open Idealize.ShloMosaic.Pipeline (Dat)
open Cert.KernelIdeal Cert.KernelIdeal.Gen Cert.Moe Cert.KernelIdeal.Launch

/-! ## The first call's results from the launch's arguments -/

variable (m : (ℓ : Loc nD τ sig) → Buf (Elt Ideal) ℓ) (c : Dev nD)

/-- The tokens, and the expert rows, as the launch gives them. -/
abbrev toks : FVec Ideal S4096x4096 .f32 := m ((c : Thread nD τ).loc main_arg0)
/-- The expert rows, as the launch gives them. -/
abbrev rows : FVec Ideal S16x4096 .f32 := m ((c : Thread nD τ).loc main_arg1)

/-- The first call finds the tokens as they were launched. -/
theorem in_toks : In0 m c main_arg0 = toks m c := (V1_of m c main_arg0 (by decide)).trans rfl
/-- The first call finds the expert rows turned into columns. -/
theorem in_cols : In0 m c main_call0_v0 = (transpose S4096x16 [1, 0] (rows m c) transposes_S16x4096_S4096x16_1_0 : FVec Ideal S4096x16 .f32) := by
  unfold In0
  show StableHlo.after hostOps0 (V0 m c) (Proc.devRef .tc main_call0_v0) = _
  simp only [hostOps0, TRef.unary, TRef.toBuf, TRef.ofBuf, cast_eq]; after_results_simp <;> rfl

/-- The table of logits of the launch's arguments. -/
abbrev Lg : Tab := Cert.ReferenceIdeal.Read.logitT (toks m c) (rows m c)

/-- A token block is the rows of the token array it stands for. -/
theorem blk_toks (t : Fin cfg0.N) (r : Fin 512) (k : Fin 4096) (h : 512 * t.val + r.val < 4096) :
    iblk0 (In0 m) c 0 t (ix2 r k) = toks m c (ix2 ⟨512 * t.val + r.val, h⟩ k) := by
  rw [← in_toks m c]
  have := (idx0 t).1
  blk_ext [iblk0, this]
/-- The column block is the whole array of columns. -/
theorem blk_cols (t : Fin cfg0.N) (k : Fin 4096) (e : Fin 16) : iblk0 (In0 m) c 1 t (ix2 k e) = rows m c (ix2 e k) := by
  have h : iblk0 (In0 m) c 1 t (ix2 k e) = In0 m c main_call0_v0 (ix2 k e) := by
    have := (idx0 t).2.1
    blk_ext [iblk0, this]
  rw [h, in_cols m c]
  pointwise

/-- Each pair of blocks carries its rows of the table. -/
theorem blk_table (t : Fin cfg0.N) : BlockOf (Lg m c) t.val (iblk0 (In0 m) c 0 t) (iblk0 (In0 m) c 1 t) := by
  intro r h
  funext e
  unfold logitB
  refine Finset.sum_congr rfl fun k _ => ?_
  rw [blk_toks m c t r k h, blk_cols m c t k e]

/-- The running rows before step `k` are the column counts of the rows before it. -/
theorem counts_at (k : ℕ) (hk : k ≤ 8) : Counts (Lg m c) k (sumsAt (In0 m) c k) := by
  induction k with
  | zero => exact counts_zero _
  | succ k ih =>
    have h := blk_table m c (pt k)
    have e : (pt k).val = k := Nat.mod_eq_of_lt (by omega)
    rw [e] at h
    exact counts_next (by omega) h (ih (by omega))

/-- What the second call finds in the first call's two results. -/
theorem in_meta : In1 m c main_call0_v1_0 = metaArr (In0 m) c :=
  (Pipeline.afterRegion_arr (Routing.dat0 (In0 m) c) (V1 m c) launch0.win.arr_inj 2).trans (meta_final (In0 m) c)
/-- The second call finds the first call's small result. -/
theorem in_aux : In1 m c main_call0_v1_1 = auxOf (sumsAt (In0 m) c 8) :=
  (Pipeline.afterRegion_arr (Routing.dat0 (In0 m) c) (V1 m c) launch0.win.arr_inj 3).trans (aux_final (In0 m) c)

/-- Row `R` of the per-token array is row `R % 512` of the block of step `R / 512`. -/
theorem meta_at (R : Fin 4096) (j : Fin 80) (t : Fin cfg0.N) (r : Fin 512) (h : R.val = 512 * t.val + r.val) :
    metaArr (In0 m) c (ix2 R j) = metaOf (iblk0 (In0 m) c 0 t) (iblk0 (In0 m) c 1 t) (sumsAt (In0 m) c t.val) (ix2 r j) :=
  metaArr_at (In0 m) c t (ix2 r j) (ix2 R j) h rfl

section
variable (R : Fin 4096) (e : Fin 16)

/-- The step whose block holds row `R`, and the row inside the block. -/
def stepOf : Fin cfg0.N := pt (R.val / 512)
/-- The row inside its block. -/
def inBlk : Fin 512 := ⟨R.val % 512, Nat.mod_lt _ (by decide)⟩
/-- The step of row `R` is `R / 512`. -/
theorem stepOf_val : (stepOf R).val = R.val / 512 := Nat.mod_eq_of_lt (by omega)
/-- The step and the row inside the block give the row back. -/
theorem row_eq : 512 * (stepOf R).val + (inBlk R).val = R.val := by
  rw [stepOf_val]; exact Nat.div_add_mod _ _
/-- There are eight steps. -/
theorem step_lt : (stepOf R).val < 8 := by rw [stepOf_val]; omega

/-- The first sixteen entries of a token's row are its gates. -/
theorem arr_gate : metaArr (In0 m) c (ix2 R ⟨e.val, by omega⟩) = gate (Lg m c R) e := by
  rw [meta_at m c R _ (stepOf R) (inBlk R) (row_eq R).symm, meta_gate (step_lt R) (blk_table m c _), row_eq R, at0_lt _ _ R.isLt]
  rfl
/-- The next sixteen mark its first expert. -/
theorem arr_hot1 : metaArr (In0 m) c (ix2 R ⟨16 + e.val, by omega⟩) = ind (e = first (Lg m c R)) := by
  rw [meta_at m c R _ (stepOf R) (inBlk R) (row_eq R).symm, meta_hot1 (step_lt R) (blk_table m c _), row_eq R, at0_lt _ _ R.isLt]
  rfl
/-- The next sixteen mark its second expert. -/
theorem arr_hot2 : metaArr (In0 m) c (ix2 R ⟨32 + e.val, by omega⟩) = ind (e = first (rest (Lg m c R))) := by
  rw [meta_at m c R _ (stepOf R) (inBlk R) (row_eq R).symm, meta_hot2 (step_lt R) (blk_table m c _), row_eq R, at0_lt _ _ R.isLt]
  rfl
/-- The next sixteen are its place among its first expert's tokens. -/
theorem arr_pl1 : metaArr (In0 m) c (ix2 R ⟨48 + e.val, by omega⟩) = pl1 (Lg m c) R e * ind (e = first (Lg m c R)) := by
  rw [meta_at m c R _ (stepOf R) (inBlk R) (row_eq R).symm,
    meta_pl1 (step_lt R) (blk_table m c _) (counts_at m c _ (step_lt R).le), row_eq R, at0_lt _ _ R.isLt]
  rfl
/-- The last sixteen are its place among its second expert's tokens. -/
theorem arr_pl2 : metaArr (In0 m) c (ix2 R ⟨64 + e.val, by omega⟩) = pl2 (Lg m c) R e * ind (e = first (rest (Lg m c R))) := by
  rw [meta_at m c R _ (stepOf R) (inBlk R) (row_eq R).symm,
    meta_pl2 (step_lt R) (blk_table m c _) (counts_at m c _ (step_lt R).le), row_eq R, at0_lt _ _ R.isLt]
  rfl
/-- The small result starts with each expert's count of first choices. -/
theorem arr_count : auxOf (sumsAt (In0 m) c 8) (ix2 0 ⟨e.val, by omega⟩) = colN (hot1 (Lg m c)) 4096 e := by
  rw [aux_count, (counts_at m c 8 le_rfl e).1]
end

/-- The seventeenth entry of the small result is the balance. -/
theorem arr_bal : auxOf (sumsAt (In0 m) c 8) (ix2 0 16) = bal (colN (gateT (Lg m c)) 4096) (colN (hot1 (Lg m c)) 4096) := by
  have h := counts_at m c 8 le_rfl
  rw [aux_bal]
  exact congrArg₂ bal (funext fun e => (h e).2.2) (funext fun e => (h e).1)

end Cert.KernelIdeal.Routing

end
-- ==== Proof.ExpandRead.lean ====
module

public import proofs.«01_k».proof.Proof.MidValue
public import Idealize.ShloMosaic.Lib.Pipeline.ValueKit

@[expose] public section

set_option maxRecDepth 16384

noncomputable section

namespace Cert.KernelIdeal.Expand

open Idealize.ShloMosaic Idealize.ShloMosaic.TcCoe Idealize.SL.Sem
open Cert.KernelIdeal Cert.KernelIdeal.Gen Cert.KernelIdeal.Launch Cert.Moe
open Cert.KernelIdeal.Routing (Lg in_meta in_aux arr_gate arr_hot1 arr_hot2 arr_pl1 arr_pl2 arr_count)

/-! ## One step of the second call, read at an element -/

/-- Row `r` of a block of per-token data, entry by entry: gates, first choice, second choice, places. -/
def RowIs (b : FVec Ideal S128x80 .f32) (r : Fin 128) (f P1 Q : Fin 16 → EReal) : Prop :=
  ∀ e : Fin 16, b (ix2 r ⟨e.val, by omega⟩) = gate f e
    ∧ b (ix2 r ⟨16 + e.val, by omega⟩) = ind (e = first f)
    ∧ b (ix2 r ⟨32 + e.val, by omega⟩) = ind (e = first (rest f))
    ∧ b (ix2 r ⟨48 + e.val, by omega⟩) = P1 e * ind (e = first f)
    ∧ b (ix2 r ⟨64 + e.val, by omega⟩) = Q e * ind (e = first (rest f))

section
variable {a : FVec Ideal S1x16 .f32} {b : FVec Ideal S128x80 .f32} {r : Fin 128} {f P1 Q T : Fin 16 → EReal}
variable (hb : RowIs b r f P1 Q) (ha : ∀ e : Fin 16, a (ix2 0 e) = T e)
include hb ha

/-- The kernel's weights of a row. -/
theorem pay14_apply (e : Fin 16) : k1_pay14 (F := Ideal) a b (ix2 r e) = wK f P1 Q T e := by
  have g0 := fun e => (hb e).1
  have g1 := fun e => (hb e).2.1
  have g2 := fun e => (hb e).2.2.1
  have g3 := fun e => (hb e).2.2.2.1
  have g4 := fun e => (hb e).2.2.2.2
  pointwise [k1_pay14, k1_pay13, k1_pay12, k1_pay11, k1_pay10, k1_pay9, k1_pay8]
  simp only [g0, g1, g2, g3, g4, ha]
  unfold wK k1 k2
  rfl
/-- The kernel's places of a row. -/
theorem pay15_apply (e : Fin 16) : k1_pay15 (F := Ideal) a b (ix2 r e) = pK f P1 Q T e := by
  have g0 := fun e => (hb e).1
  have g1 := fun e => (hb e).2.1
  have g2 := fun e => (hb e).2.2.1
  have g3 := fun e => (hb e).2.2.2.1
  have g4 := fun e => (hb e).2.2.2.2
  pointwise [k1_pay15, k1_pay13, k1_pay12, k1_pay11, k1_pay10, k1_pay9, k1_pay8]
  simp only [g0, g1, g2, g3, g4, ha]
  unfold pK k1 k2
  rfl
end

/-- A written weight: the row's weight where its place is the column, zero elsewhere. -/
theorem pay2_apply (w p : FVec Ideal S128x16 .f32) (r : Fin 128) (e : Fin 16) (s : Fin 512) (q : Fin 2048) (hq : q.val = 16 * r.val + e.val) :
    k1_pay2 (F := Ideal) w p (ix2 q s) = if BitVec.ofNat 32 s.val = Ideal.fptosi 32 (p (ix2 r e)) then w (ix2 r e) else 0 := by
  have hr : (⟨q.val / 16, by omega⟩ : Fin 128) = r := Fin.ext (by show q.val / 16 = r.val; omega)
  have he : (⟨q.val % 16, by omega⟩ : Fin 16) = e := Fin.ext (by show q.val % 16 = e.val; omega)
  pointwise [k1_pay2, k1_pay1]
  rw [select_eq, hr, he]
  rfl
/-- A written mark: one where the row's place is the column and its weight is positive. -/
theorem pay3_apply (w p : FVec Ideal S128x16 .f32) (r : Fin 128) (e : Fin 16) (s : Fin 512) :
    k1_pay3 (F := Ideal) w p (ix3 r e s)
      = if BitVec.ofNat 32 s.val = Ideal.fptosi 32 (p (ix2 r e)) ∧ 0 < w (ix2 r e) then 1#8 else 0#8 := by
  pointwise [k1_pay3, k1_pay1]
  have hp : (FloatOps.fptosi 32 (p (ix2 r e)) : BitVec 32) = Ideal.fptosi 32 (p (ix2 r e)) := rfl
  rw [hp]
  by_cases h : BitVec.ofNat 32 s.val = Ideal.fptosi 32 (p (ix2 r e)) <;> by_cases h' : 0 < w (ix2 r e) <;>
    simp [h, h', IntOp.cmpi, IntOp.andi, beq_eq_false_iff_ne.2]

/-! ## The blocks a step reads -/

variable (m : (ℓ : Loc nD τ sig) → Buf (Elt Ideal) ℓ) (c : Dev nD)

/-- Where the second call's windows and its row loads start. -/
theorem idx1 : ∀ t : Fin cfg1.N, win1_0.index t = ![0, 0] ∧ win1_1.index t = ![0, 0] ∧ k1_off1 (grid1.coords t) = ![128 * t.val, 0] :=
  (by decide +kernel : ∀ t : Fin grid1.N, _)

/-- The counts a step loads are the first sixteen entries of the small result. -/
theorem head_read (t : Fin cfg1.N) (e : Fin 16) :
    headAux (iblk1 (In1 m) c 0 t) (ix2 0 e) = In1 m c main_call0_v1_1 (ix2 0 ⟨e.val, by omega⟩) := by
  have h : headAux (iblk1 (In1 m) c 0 t) (ix2 0 e) = iblk1 (In1 m) c 0 t (ix2 0 ⟨e.val, by omega⟩) := by
    refine View.ld_unit_apply_of _ _ _ _ _ _ fun a => ?_
    match a with
    | ⟨0, _⟩ => rfl
    | ⟨1, _⟩ => exact (Nat.zero_add _).symm
  rw [h]
  have := (idx1 t).1
  blk_ext [iblk1, this]
/-- The rows step `t` loads are the rows `128 t`, …, `128 t + 127` of the per-token data. -/
theorem rows_read (t : Fin cfg1.N) (r : Fin 128) (j : Fin 80) (R : Fin 4096) (hR : R.val = 128 * t.val + r.val) :
    rowsAt (iblk1 (In1 m) c 1 t) t (ix2 r j) = In1 m c main_call0_v1_0 (ix2 R j) := by
  have h : rowsAt (iblk1 (In1 m) c 1 t) t (ix2 r j) = iblk1 (In1 m) c 1 t (ix2 R j) := by
    refine View.ld_unit_apply_of _ _ _ _ _ _ fun a => ?_
    match a with
    | ⟨0, _⟩ => exact hR.trans (congrArg (· + r.val) (congrFun (idx1 t).2.2 0).symm)
    | ⟨1, _⟩ => exact (Nat.zero_add _).symm.trans (congrArg (· + j.val) (congrFun (idx1 t).2.2 1).symm)
  rw [h]
  have := (idx1 t).2.1
  blk_ext [iblk1, this]

/-- So row `R` of the logit table is the one behind row `r` of step `t`. -/
theorem row_is (t : Fin cfg1.N) (r : Fin 128) (R : Fin 4096) (hR : R.val = 128 * t.val + r.val) :
    RowIs (rowsAt (iblk1 (In1 m) c 1 t) t) r (Lg m c R) (pl1 (Lg m c) R) (pl2 (Lg m c) R) := fun e =>
  ⟨(rows_read m c t r _ R hR).trans ((congrFun (in_meta m c) _).trans (arr_gate m c R e)),
   (rows_read m c t r _ R hR).trans ((congrFun (in_meta m c) _).trans (arr_hot1 m c R e)),
   (rows_read m c t r _ R hR).trans ((congrFun (in_meta m c) _).trans (arr_hot2 m c R e)),
   (rows_read m c t r _ R hR).trans ((congrFun (in_meta m c) _).trans (arr_pl1 m c R e)),
   (rows_read m c t r _ R hR).trans ((congrFun (in_meta m c) _).trans (arr_pl2 m c R e))⟩
/-- And the counts are those of all first choices. -/
theorem head_is (t : Fin cfg1.N) (e : Fin 16) : headAux (iblk1 (In1 m) c 0 t) (ix2 0 e) = colN (hot1 (Lg m c)) 4096 e :=
  (head_read m c t e).trans ((congrFun (in_aux m c) _).trans (arr_count m c e))

section
variable (hL : ∀ (r : Fin 4096) (e : Fin 16), ∃ y : ℝ, Lg m c r e = (y : EReal))
include hL

/-- The combined weight of token `R`, expert `e`, place `s`. -/
abbrev weight (R : Fin 4096) (e : Fin 16) (s : Fin 512) : EReal :=
  comb (Lg m c R) (pl1 (Lg m c) R) (fun x => pl2 (Lg m c) R x + colN (hot1 (Lg m c)) 4096 x) e s

/-- A block of weights, element by element. -/
theorem blkC_at (t : Fin cfg1.N) (r : Fin 128) (e : Fin 16) (s : Fin 512) (q : Fin 2048) (hq : q.val = 16 * r.val + e.val)
    (R : Fin 4096) (hR : R.val = 128 * t.val + r.val) :
    blkC (iblk1 (In1 m) c 0 t) (iblk1 (In1 m) c 1 t) t (ix2 q s) = weight m c R e s := by
  unfold blkC
  rw [pay2_apply _ _ r e s q hq, pay14_apply (row_is m c t r R hR) (head_is m c t), pay15_apply (row_is m c t r R hR) (head_is m c t)]
  exact comb_kernel (hL R) _ _ _ e s
/-- A block of marks, element by element. -/
theorem blkD_at (t : Fin cfg1.N) (r : Fin 128) (e : Fin 16) (s : Fin 512) (R : Fin 4096) (hR : R.val = 128 * t.val + r.val) :
    blkD (iblk1 (In1 m) c 0 t) (iblk1 (In1 m) c 1 t) t (ix3 r e s) = if weight m c R e s ≠ 0 then 1#8 else 0#8 := by
  unfold blkD
  rw [pay3_apply _ _ r e s, pay14_apply (row_is m c t r R hR) (head_is m c t), pay15_apply (row_is m c t r R hR) (head_is m c t)]
  exact if_congr (flag_kernel (hL R) _ _ _ e s) rfl rfl

/-- The array of weights. -/
theorem fullC_at (R : Fin 4096) (e : Fin 16) (s : Fin 512) (q : Fin 65536) (hq : q.val = 16 * R.val + e.val) :
    fullC (EC (In1 m) c) (ix2 q s) = weight m c R e s := by
  have hu : q.val / 2048 < 32 := by omega
  show EC (In1 m) c ⟨q.val / 2048, hu⟩ (ix2 (⟨q.val % 2048, Nat.mod_lt _ (by decide)⟩ : Fin 2048) s) = _
  exact blkC_at m c hL (ptOf ⟨q.val / 2048, hu⟩) ⟨R.val % 128, Nat.mod_lt _ (by decide)⟩ e s _
    (by show q.val % 2048 = 16 * (R.val % 128) + e.val; omega) R (by show R.val = 128 * (q.val / 2048) + R.val % 128; omega)
/-- The array of marks. -/
theorem fullD_at (R : Fin 4096) (e : Fin 16) (s : Fin 512) :
    fullD (ED (In1 m) c) (ix3 R e s) = if weight m c R e s ≠ 0 then 1#8 else 0#8 := by
  have hu : R.val / 128 < 32 := by omega
  show ED (In1 m) c ⟨R.val / 128, hu⟩ (ix3 (⟨R.val % 128, Nat.mod_lt _ (by decide)⟩ : Fin 128) e s) = _
  exact blkD_at m c hL (ptOf ⟨R.val / 128, hu⟩) ⟨R.val % 128, Nat.mod_lt _ (by decide)⟩ e s R
    (by show R.val = 128 * (R.val / 128) + R.val % 128; omega)
end

end Cert.KernelIdeal.Expand

end
-- ==== Proof.Same.lean ====
module

public import proofs.«01_k».proof.Proof.ExpandRead

@[expose] public section

set_option maxRecDepth 16384

noncomputable section

namespace Cert.KernelIdeal.Launch

open Idealize.ShloMosaic Idealize.ShloMosaic.TcCoe Idealize.ShloMosaic.StableHlo Idealize.SL.Sem
open Cert.KernelIdeal Cert.KernelIdeal.Gen Cert.Moe
open Cert.KernelIdeal.Routing (Lg toks rows in_aux arr_bal)

/-! ## The kernel's three results -/

section
variable {F : FTy → Type} [FloatOps F] (V : Valuation τ sig (Elt F))

/-- The first result is the seventeenth entry of the small array. -/
theorem tail_0 : (after hostOps2 V (Proc.devRef .tc main_v0_0) : Vec F S_ .f32)
    = shapeCast S_ (extractStridedSlice S1x1 ![0, 16] (V (Proc.devRef .tc main_call0_v1_1) : Vec F S1x32 .f32) slices_S1x32_S1x1_0_16) shapeCasts_S1x1_S_ := by
  simp only [hostOps2, TRef.binary, TRef.nullary, TRef.unary, TRef.reshape, TRef.toBuf, TRef.ofBuf, cast_eq]; after_results_simp <;> rfl
/-- The second result is the array of weights, its rows split by expert. -/
theorem tail_1 : (after hostOps2 V (Proc.devRef .tc main_v0_1) : Vec F S4096x16x512 .f32)
    = shapeCast S4096x16x512 (V (Proc.devRef .tc main_call0_v2_0) : Vec F S65536x512 .f32) shapeCasts_S65536x512_S4096x16x512 := by
  simp only [hostOps2, TRef.binary, TRef.nullary, TRef.unary, TRef.reshape, TRef.toBuf, TRef.ofBuf, cast_eq]; after_results_simp <;> rfl
/-- The third result says where the array of marks is not zero. -/
theorem tail_2 : (after hostOps2 V (Proc.devRef .tc main_v0_2) : Vec F S4096x16x512 .i1)
    = cmpi .ne (V (Proc.devRef .tc main_call0_v2_1) : Vec F S4096x16x512 .i8) (broadcastInDim S4096x16x512 ![] bcast_S_S4096x16x512 (constantI S_ 8 0#8)) := by
  simp only [hostOps2, TRef.binary, TRef.nullary, TRef.unary, TRef.reshape, TRef.toBuf, TRef.ofBuf, cast_eq]; after_results_simp <;> rfl
end

variable (m : (ℓ : Loc nD τ sig) → Buf (Elt Ideal) ℓ) (c : Dev nD)
variable (hL : ∀ (r : Fin 4096) (e : Fin 16), ∃ y : ℝ, Lg m c r e = (y : EReal))
include hL

/-- The kernel's first result is the reference's. -/
theorem same_0 : (V4 m (outs m) c (Proc.devRef .tc main_v0_0) : Vec Ideal S_ .f32) = Cert.ReferenceIdeal.Line.out0 (toks m c) (rows m c) := by
  refine (tail_0 _).trans (funext fun j => ?_)
  rw [Cert.ReferenceIdeal.Read.out0_apply _ _ hL j]
  refine Eq.trans ?_ (arr_bal m c)
  rw [V3_off m c main_call0_v1_1 (by decide) (by decide)]
  have h := in_aux m c
  unfold In1 at h
  rw [h]
  pointwise
/-- The kernel's second result is the reference's. -/
theorem same_1 : (V4 m (outs m) c (Proc.devRef .tc main_v0_1) : Vec Ideal S4096x16x512 .f32) = Cert.ReferenceIdeal.Line.out1 (toks m c) (rows m c) := by
  refine (tail_1 _).trans (funext fun j => ?_)
  obtain ⟨R, e, s, rfl⟩ : ∃ (R : Fin 4096) (e : Fin 16) (s : Fin 512), j = ix3 R e s := ⟨j 0, j 1, j 2, by funext a; match a with | ⟨0, _⟩ => rfl | ⟨1, _⟩ => rfl | ⟨2, _⟩ => rfl⟩
  refine Eq.trans ?_ (Cert.ReferenceIdeal.Read.out1_apply _ _ hL R e s).symm
  rw [V3_C]
  refine Eq.trans ?_ (Expand.fullC_at m c hL R e s ⟨16 * R.val + e.val, by omega⟩ rfl)
  generalize Expand.fullC (Expand.EC (In1 m) c) = X
  pointwise
  exact congrArg (fun q => X (ix2 q s)) (Fin.ext (by show R.val * 16 + e.val = 16 * R.val + e.val; omega))
/-- The kernel's third result is the reference's. -/
theorem same_2 : (V4 m (outs m) c (Proc.devRef .tc main_v0_2) : Vec Ideal S4096x16x512 .i1) = Cert.ReferenceIdeal.Line.out2 (toks m c) (rows m c) := by
  refine (tail_2 _).trans (funext fun j => ?_)
  obtain ⟨R, e, s, rfl⟩ : ∃ (R : Fin 4096) (e : Fin 16) (s : Fin 512), j = ix3 R e s := ⟨j 0, j 1, j 2, by funext a; match a with | ⟨0, _⟩ => rfl | ⟨1, _⟩ => rfl | ⟨2, _⟩ => rfl⟩
  refine Eq.trans ?_ (Cert.ReferenceIdeal.Read.out2_apply _ _ hL R e s).symm
  rw [V3_D]
  have h := Expand.fullD_at m c hL R e s
  show IntOp.cmpi .ne (Expand.fullD (Expand.ED (In1 m) c) (ix3 R e s)) 0#8 = _
  rw [h]
  by_cases hw : Expand.weight m c R e s ≠ 0
  · rw [if_pos hw, decide_eq_true hw]; rfl
  · rw [if_neg hw, decide_eq_false hw]; rfl

end Cert.KernelIdeal.Launch

end
-- ==== Proof.Finite.lean ====
module

public import proofs.«01_k».proof.Proof.RefValue
public import proofs.«01_k».proof.Proof.Gen.Pre_finite_inputs
public import Idealize.ShloMosaic.Lib.ReduceAll

@[expose] public section

set_option maxRecDepth 16384

noncomputable section

namespace Cert.Moe

open Idealize.ShloMosaic

/-! ## What the precondition gives -/

/-- An extended real whose absolute value is below infinity is a real. -/
theorem real_of_lt {y : EReal} (h : max y (-y) < Ideal.ofBits .f32 0x7F800000#32) : ∃ r : ℝ, y = (r : EReal) := by
  have hi : Ideal.ofBits .f32 0x7F800000#32 = ⊤ := by simp [Ideal.ofBits, Ideal.ieee]
  rw [hi] at h
  have h1 : y ≠ ⊤ := fun e => by rw [e] at h; simp at h
  have h2 : y ≠ ⊥ := fun e => by rw [e] at h; simp at h
  exact ⟨y.toReal, (EReal.coe_toReal h1 h2).symm⟩

/-- One element of the compared array. -/
theorem real_of_cmp {s : Shape} (x : FVec Ideal s .f32) (h : Pre_finite_inputs.S_.BroadcastsInDim s (![] : Fin 0 → Fin s.rank)) (i : s.Idx)
    (e : cmpf .olt (Host.absf x) (broadcastInDim s ![] h (constant (F := Ideal) Pre_finite_inputs.S_ .f32 0x7F800000#32)) i = 1#1) : ∃ r : ℝ, x i = (r : EReal) := by
  refine real_of_lt (of_decide_eq_true ?_)
  have e' : BitVec.ofBool (decide (max (x i) (-(x i)) < Ideal.ofBits .f32 0x7F800000#32)) = 1#1 := e
  revert e'
  cases decide (max (x i) (-(x i)) < Ideal.ofBits .f32 0x7F800000#32) <;> decide

/-- Under the precondition every element of both arguments is a real. -/
theorem reals {x : FVec Ideal Pre_finite_inputs.S4096x4096 .f32} {w : FVec Ideal Pre_finite_inputs.S16x4096 .f32}
    (h : Pre_finite_inputs.fn x w = fun _ => 1#1) : (∀ i, ∃ r : ℝ, x i = (r : EReal)) ∧ ∀ i, ∃ r : ℝ, w i = (r : EReal) := by
  haveI : Subsingleton Pre_finite_inputs.S_.Idx := ⟨fun a b => funext fun k => k.elim0⟩
  have h0 := congrFun h (fun a => a.elim0)
  unfold Pre_finite_inputs.fn at h0
  obtain ⟨h1, h2⟩ := IntOp.andi_eq_one.1 h0
  exact ⟨fun i => real_of_cmp x _ i (Host.reduce_andi_all _ _ _ _ _ h1 i), fun i => real_of_cmp w _ i (Host.reduce_andi_all _ _ _ _ _ h2 i)⟩

/-- So every logit is a real. -/
theorem logit_real {x : FVec Ideal Pre_finite_inputs.S4096x4096 .f32} {w : FVec Ideal Pre_finite_inputs.S16x4096 .f32}
    (h : Pre_finite_inputs.fn x w = fun _ => 1#1) (r : Fin 4096) (e : Fin 16) :
    ∃ y : ℝ, Cert.ReferenceIdeal.Read.logitT x w r e = (y : EReal) := by
  obtain ⟨hx, hw⟩ := reals h
  choose a ha using hx
  choose b hb using hw
  refine ⟨∑ k : Fin 4096, a (ix2 r k) * b (ix2 e k), ?_⟩
  rw [coe_sum]
  refine Finset.sum_congr rfl fun k _ => ?_
  rw [EReal.coe_mul, ← ha, ← hb]

end Cert.Moe

end
-- ==== Proof.lean ====
module

public import proofs.«01_k».proof.Defs
public import proofs.«01_k».proof.Proof.TwinRun
public import proofs.«01_k».proof.Proof.RefRun
public import proofs.«01_k».proof.Proof.Same
public import proofs.«01_k».proof.Proof.Finite
public import proofs.«01_k».proof.Proof.Gen.ReferenceIdeal
public import proofs.«01_k».proof.Proof.Gen.Pre_finite_inputs
public import Idealize.ShloMosaic.Adequacy
public import Idealize.ShloMosaic.Init

@[expose] public section

noncomputable section

namespace Cert.Proof

open Idealize.ShloMosaic Idealize.SL.Sem

/-- The kernel terminates, leaves its arguments as launched, and returns every counter to zero. -/
theorem frame_Kernel : Cert.quiescent_Kernel := fun m g _ => Cert.Twin.run m g

/-- The idealized kernel terminates, leaves its arguments as launched, and returns every counter to zero. -/
theorem frame_KernelIdeal : Cert.quiescent_KernelIdeal := fun m g _ =>
  (θ_run _ _ _).mono (fun _ h => ⟨fun c => (h.1 c).1, h.2⟩) (Cert.KernelIdeal.Launch.run m g)

/-- The reference has no counter at all. -/
theorem no_counter (g : GSem Cert.ReferenceIdeal.nD Cert.ReferenceIdeal.τ Cert.ReferenceIdeal.sig) : False := by
  obtain ⟨t, s⟩ := g
  rcases s with s | s <;> revert s <;> decide

/-- The reference terminates and leaves its arguments as launched; it has no counters. -/
theorem frame_ReferenceIdeal : Cert.quiescent_ReferenceIdeal := fun m g _ =>
  (θ_run _ _ _).mono (fun _ h => ⟨fun c => (h c).2.2.2, funext fun g => (no_counter g).elim⟩) (Cert.ReferenceIdeal.Line.run m g)

/-- From the same finite arguments the idealized kernel and the reference end with the same three results. -/
theorem same_results : Cert.algebraic_KernelIdeal_ReferenceIdeal_pre_finite_inputs := by
  intro m g m' g' hpre hargs
  have hL := fun c => Cert.Moe.logit_real (hpre c)
  refine ⟨fun c => Cert.ReferenceIdeal.Line.out0 (Cert.KernelIdeal.Routing.toks m c) (Cert.KernelIdeal.Routing.rows m c),
    fun c => Cert.ReferenceIdeal.Line.out1 (Cert.KernelIdeal.Routing.toks m c) (Cert.KernelIdeal.Routing.rows m c),
    fun c => Cert.ReferenceIdeal.Line.out2 (Cert.KernelIdeal.Routing.toks m c) (Cert.KernelIdeal.Routing.rows m c), ?_, ?_⟩
  · refine (θ_run _ _ _).mono (fun _ h c => ?_) (Cert.KernelIdeal.Launch.run m g)
    obtain ⟨ha, h0, h1, h2⟩ := h.1 c
    exact ⟨h0.trans (Cert.KernelIdeal.Launch.same_0 m c (hL c)), h1.trans (Cert.KernelIdeal.Launch.same_1 m c (hL c)),
      h2.trans (Cert.KernelIdeal.Launch.same_2 m c (hL c)), ha⟩
  · refine (θ_run _ _ _).mono (fun _ h c => ?_) (Cert.ReferenceIdeal.Line.run m' g')
    obtain ⟨h0, h1, h2, ha⟩ := h c
    obtain ⟨e0, e1⟩ := hargs c
    exact ⟨h0.trans (congrArg₂ Cert.ReferenceIdeal.Line.out0 e0 e1), h1.trans (congrArg₂ Cert.ReferenceIdeal.Line.out1 e0 e1),
      h2.trans (congrArg₂ Cert.ReferenceIdeal.Line.out2 e0 e1), ha⟩

/-- Every claim of the certificate. -/
theorem claim : Cert.Claim := ⟨Cert.Kernel.Gen.facts, Cert.KernelIdeal.Gen.facts, Cert.ReferenceIdeal.Gen.facts, Cert.Pre_finite_inputs.Gen.facts,
  frame_Kernel, frame_KernelIdeal, fun m g _ => frame_KernelIdeal m g trivial, frame_ReferenceIdeal, fun m g _ => frame_ReferenceIdeal m g trivial, trivial, same_results⟩

end Cert.Proof

end
